-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x256x1024 : Shape := ⟨3, ![1, 256, 1024]⟩
abbrev S1024x1024 : Shape := ⟨2, ![1024, 1024]⟩
abbrev S1x65536x8x128 : Shape := ⟨4, ![1, 65536, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x65536x8x128 : S_.BroadcastsInDim S1x65536x8x128 (![] : Fin 0 → Fin S1x65536x8x128.rank)

variable [Facts]

def fn {F : FTy → Type} [FloatOps F] (main_arg0 : FVec F S1x256x1024 .f32) (main_arg1 : FVec F S1024x1024 .f32) (main_arg2 : FVec F S1x65536x8x128 .f32) (main_arg3 : FVec F S1x65536x8x128 .f32) (main_arg4 : FVec F S1024x1024 .f32) : IVec S1x256x1024 1 × IVec S1024x1024 1 × IVec S1x65536x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x65536x8x128 .f32 := Host.absf main_arg2
  let main_cst_1 : FVec F S_ .f32 := constant S_ .f32 0x7F800000#32
  let main_v7 : FVec F S1x65536x8x128 .f32 := broadcastInDim S1x65536x8x128 ![] bcast_S_S1x65536x8x128 main_cst_1
  let main_v8 : IVec S1x65536x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S8x256x128 : Shape := ⟨3, ![8, 256, 128]⟩
abbrev S4x8x256x128 : Shape := ⟨4, ![4, 8, 256, 128]⟩
abbrev S2x8x256 : Shape := ⟨3, ![2, 8, 256]⟩
abbrev S4x2x8x256 : Shape := ⟨4, ![4, 2, 8, 256]⟩
abbrev S4 : Shape := ⟨1, ![4]⟩
abbrev S_ : Shape := ⟨0, ![]⟩
abbrev S256x1024 : Shape := ⟨2, ![256, 1024]⟩
abbrev S4096x8x128 : Shape := ⟨3, ![4096, 8, 128]⟩
abbrev S16x4x64x8x128 : Shape := ⟨5, ![16, 4, 64, 8, 128]⟩
abbrev S16x1x64x8x128 : Shape := ⟨5, ![16, 1, 64, 8, 128]⟩
abbrev S16x64x8x128 : Shape := ⟨4, ![16, 64, 8, 128]⟩
abbrev S1024x8x128 : Shape := ⟨3, ![1024, 8, 128]⟩
abbrev S64x1024 : Shape := ⟨2, ![64, 1024]⟩
abbrev S64x8x128 : Shape := ⟨3, ![64, 8, 128]⟩
abbrev S64x1x128 : Shape := ⟨3, ![64, 1, 128]⟩
abbrev S64x128 : Shape := ⟨2, ![64, 128]⟩
abbrev S1024x1x128 : Shape := ⟨3, ![1024, 1, 128]⟩
abbrev S1024x128 : Shape := ⟨2, ![1024, 128]⟩
abbrev S64 : Shape := ⟨1, ![64]⟩
abbrev S64x1 : Shape := ⟨2, ![64, 1]⟩
abbrev S1x64 : Shape := ⟨2, ![1, 64]⟩
abbrev S8x64 : Shape := ⟨2, ![8, 64]⟩
abbrev S1x64x128 : Shape := ⟨3, ![1, 64, 128]⟩
abbrev S8x64x128 : Shape := ⟨3, ![8, 64, 128]⟩
abbrev S8x256 : Shape := ⟨2, ![8, 256]⟩
abbrev S1x8x256 : Shape := ⟨3, ![1, 8, 256]⟩
abbrev S1 : Shape := ⟨1, ![1]⟩
abbrev S1x8x256x128 : Shape := ⟨4, ![1, 8, 256, 128]⟩
abbrev S1x2x8x256 : Shape := ⟨4, ![1, 2, 8, 256]⟩
abbrev S1x1x8x256 : Shape := ⟨4, ![1, 1, 8, 256]⟩
abbrev S8x256x1 : Shape := ⟨3, ![8, 256, 1]⟩
abbrev S256x8x128 : Shape := ⟨3, ![256, 8, 128]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1x4096x8x128, .f32⟩
  | .local _ .vmem, ⟨3, _⟩ => ⟨S1x4096x8x128, .f32⟩
  | .local _ .vmem, ⟨4, _⟩ => ⟨S1024x1024, .f32⟩
  | .local _ .vmem, ⟨5, _⟩ => ⟨S1x256x1024, .f32⟩
  | .local _ .vmem, ⟨6, _⟩ => ⟨S8x256x128, .bf16⟩
  | .local _ .vmem, ⟨7, _⟩ => ⟨S4x8x256x128, .bf16⟩
  | .local _ .vmem, ⟨8, _⟩ => ⟨S2x8x256, .f32⟩
  | .local _ .vmem, ⟨9, _⟩ => ⟨S4x2x8x256, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_193 : BitVec 32 := 1#32
  let v732 : BitVec 32 := Scalar.xori v2 c1_i32_193
  let c1_i32_197 : BitVec 32 := 1#32
  let v733 : BitVec 32 := Scalar.muli v732 c1_i32_197
  let v734 : BitVec 32 := Scalar.addi c0_i32_198 v733
  v734.toNat
def k0_dev6 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_193 : BitVec 32 := 1#32
  let v732 : BitVec 32 := Scalar.xori v2 c1_i32_193
  let c1_i32_205 : BitVec 32 := 1#32
  let v741 : BitVec 32 := Scalar.muli v732 c1_i32_205
  let v742 : BitVec 32 := Scalar.addi c0_i32_206 v741
  v742.toNat
def k0_dev7 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_270 : BitVec 32 := 2#32
  let v807 : BitVec 32 := Scalar.xori v2 c2_i32_270
  let c1_i32_274 : BitVec 32 := 1#32
  let v808 : BitVec 32 := Scalar.muli v807 c1_i32_274
  let v809 : BitVec 32 := Scalar.addi c0_i32_275 v808
  v809.toNat
def k0_dev8 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_270 : BitVec 32 := 2#32
  let v807 : BitVec 32 := Scalar.xori v2 c2_i32_270
  let c1_i32_282 : BitVec 32 := 1#32
  let v816 : BitVec 32 := Scalar.muli v807 c1_i32_282
  let v817 : BitVec 32 := Scalar.addi c0_i32_283 v816
  v817.toNat
def k0_dev9 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_347 : BitVec 32 := 4#32
  let v882 : BitVec 32 := Scalar.xori v2 c4_i32_347
  let c1_i32_351 : BitVec 32 := 1#32
  let v883 : BitVec 32 := Scalar.muli v882 c1_i32_351
  let v884 : BitVec 32 := Scalar.addi c0_i32_352 v883
  v884.toNat
def k0_dev10 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_347 : BitVec 32 := 4#32
  let v882 : BitVec 32 := Scalar.xori v2 c4_i32_347
  let c1_i32_359 : BitVec 32 := 1#32
  let v891 : BitVec 32 := Scalar.muli v882 c1_i32_359
  let v892 : BitVec 32 := Scalar.addi c0_i32_360 v891
  v892.toNat
def k0_dev11 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_423 : BitVec 32 := 8#32
  let v957 : BitVec 32 := Scalar.xori v2 c8_i32_423
  let c1_i32_426 : BitVec 32 := 1#32
  let v958 : BitVec 32 := Scalar.muli v957 c1_i32_426
  let v959 : BitVec 32 := Scalar.addi c0_i32_427 v958
  v959.toNat
def k0_dev12 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_423 : BitVec 32 := 8#32
  let v957 : BitVec 32 := Scalar.xori v2 c8_i32_423
  let c1_i32_434 : BitVec 32 := 1#32
  let v966 : BitVec 32 := Scalar.muli v957 c1_i32_434
  let v967 : BitVec 32 := Scalar.addi c0_i32_435 v966
  v967.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x65536x8x128 : Shape := ⟨4, ![1, 65536, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S65536 : Shape := ⟨1, ![65536]⟩
abbrev S1x65536 : Shape := ⟨2, ![1, 65536]⟩
abbrev S256x65536 : Shape := ⟨2, ![256, 65536]⟩
abbrev S1x8x256x65536 : Shape := ⟨4, ![1, 8, 256, 65536]⟩
abbrev S1x1x256x65536 : Shape := ⟨4, ![1, 1, 256, 65536]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x1024, .f32⟩
  | 2 => ⟨S1x65536x8x128, .f32⟩
  | 3 => ⟨S1x65536x8x128, .f32⟩
  | 4 => ⟨S1024x1024, .f32⟩
  | 5 => ⟨S1x256x1024, .f32⟩
  | 6 => ⟨S1x256x8x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S65536, .i32⟩
  | 28 => ⟨S_, .i32⟩
  | 29 => ⟨S_, .i32⟩
  | 30 => ⟨S65536, .i32⟩
  | 31 => ⟨S65536, .i32⟩
  | 32 => ⟨S65536, .i32⟩
  | 33 => ⟨S_, .i32⟩
  | 34 => ⟨S65536, .i32⟩
  | 35 => ⟨S65536, .i1⟩
  | 36 => ⟨S65536, .i32⟩
  | 37 => ⟨S65536, .i32⟩
  | 38 => ⟨S_, .i32⟩
  | 39 => ⟨S65536, .i32⟩
  | 40 => ⟨S65536, .i1⟩
  | 41 => ⟨S65536, .i1⟩
  | 42 => ⟨S_, .i32⟩
  | 43 => ⟨S65536, .i32⟩
  | 44 => ⟨S65536, .i32⟩
  | 45 => ⟨S65536, .i32⟩
  | 46 => ⟨S1x65536, .i32⟩
  | 47 => ⟨S256x65536, .i32⟩
  | 48 => ⟨S256x65536, .i32⟩
  | 49 => ⟨S256x65536, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x65536, .i32⟩
  | 57 => ⟨S1x65536, .i32⟩
  | 58 => ⟨S_, .i32⟩
  | 59 => ⟨S1x65536, .i32⟩
  | 60 => ⟨S1x65536, .i1⟩
  | 61 => ⟨S_, .i32⟩
  | 62 => ⟨S1x65536, .i32⟩
  | 63 => ⟨S1x65536, .i1⟩
  | 64 => ⟨S_, .i32⟩
  | 65 => ⟨S_, .i1⟩
  | 66 => ⟨S1x65536, .i1⟩
  | 67 => ⟨S1x65536, .i1⟩
  | 68 => ⟨S1x65536, .i1⟩
  | 69 => ⟨S1x65536, .i32⟩
  | 70 => ⟨S1x65536, .i32⟩
  | 71 => ⟨S1x65536, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x65536, .i32⟩
  | 95 => ⟨S256x65536, .i32⟩
  | 96 => ⟨S256x65536, .i1⟩
  | 97 => ⟨S256x65536, .i1⟩
  | 98 => ⟨S1x8x256x65536, .f32⟩
  | 99 => ⟨S_, .f32⟩
  | 100 => ⟨S1x8x256x65536, .f32⟩
  | 101 => ⟨S1x8x256x65536, .f32⟩
  | 102 => ⟨S1x1x256x65536, .i1⟩
  | 103 => ⟨S_, .f32⟩
  | 104 => ⟨S_, .f32⟩
  | 105 => ⟨S1x8x256x65536, .i1⟩
  | 106 => ⟨S1x8x256x65536, .f32⟩
  | 107 => ⟨S1x8x256x65536, .f32⟩
  | 108 => ⟨S_, .f32⟩
  | 109 => ⟨S1x8x256, .f32⟩
  | 110 => ⟨S1x8x256x1, .f32⟩
  | 111 => ⟨S1x8x256x65536, .f32⟩
  | 112 => ⟨S1x8x256x65536, .f32⟩
  | 113 => ⟨S1x8x256x65536, .f32⟩
  | 114 => ⟨S_, .i1⟩
  | 115 => ⟨S256, .i1⟩
  | 116 => ⟨S1x1x256x1, .i1⟩
  | 117 => ⟨S_, .f32⟩
  | 118 => ⟨S1x8x256, .f32⟩
  | 119 => ⟨S1x8x256x1, .f32⟩
  | 120 => ⟨S_, .f32⟩
  | 121 => ⟨S_, .f32⟩
  | 122 => ⟨S1x8x256x1, .i1⟩
  | 123 => ⟨S1x8x256x1, .f32⟩
  | 124 => ⟨S1x8x256x1, .f32⟩
  | 125 => ⟨S1x8x256x65536, .f32⟩
  | 126 => ⟨S1x8x256x65536, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x8x256x65536, .i1⟩
  | 3 => ⟨S1x8x256x65536, .f32⟩
  | 4 => ⟨S1x8x256x65536, .f32⟩
  | 5 => ⟨S1x8x128x256, .f32⟩
  | 6 => ⟨S1x256x8x128, .f32⟩
  | 7 => ⟨S1x256x1024, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Proto.lean ====
/-
The exchange protocol of the kernel: which semaphore cells carry which transfers of ownership, what each device owes at
launch, and the levels under which every wait is allowed.

Device `c` exchanges with `nb r c` in round `r` (the device whose number differs in bit `r`). Every cell is used once:
the barrier cell takes one unit from each of the four partners, the unit of partner `nb r c` bringing that partner's
receive slots of round `r`; the four kinds of transfer cells (`0` context sent, `1` context received, `2` statistics
sent, `3` statistics received) of each round bring the sent buffer back or the filled slot.

The contents are parameters: `C r c` the context and `S r c` the statistics device `c` holds at the start of round `r`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partners -/

/-- The partner of device `c` in round `r`. -/
def nb (r : Fin 4) (c : Dev nD) : Dev nD := ⟨(c.val ^^^ (2 ^ r.val)) % 16, Nat.mod_lt _ (by decide)⟩

theorem nb_nb (r : Fin 4) (c : Dev nD) : nb r (nb r c) = c := by revert r c; decide

def nbE (r : Fin 4) : Dev nD ≃ Dev nD := ⟨nb r, nb r, nb_nb r, nb_nb r⟩

theorem sig1 (c : Dev nD) (h : k0_dev1 c < nD) : (⟨k0_dev1 c, h⟩ : Dev nD) = nb 0 c := Fin.ext ((by decide +kernel : ∀ c : Dev nD, k0_dev1 c = (nb 0 c).val) c)
theorem sig2 (c : Dev nD) (h : k0_dev2 c < nD) : (⟨k0_dev2 c, h⟩ : Dev nD) = nb 1 c := Fin.ext ((by decide +kernel : ∀ c : Dev nD, k0_dev2 c = (nb 1 c).val) c)
theorem sig3 (c : Dev nD) (h : k0_dev3 c < nD) : (⟨k0_dev3 c, h⟩ : Dev nD) = nb 2 c := Fin.ext ((by decide +kernel : ∀ c : Dev nD, k0_dev3 c = (nb 2 c).val) c)
theorem sig4 (c : Dev nD) (h : k0_dev4 c < nD) : (⟨k0_dev4 c, h⟩ : Dev nD) = nb 3 c := Fin.ext ((by decide +kernel : ∀ c : Dev nD, k0_dev4 c = (nb 3 c).val) c)
theorem dst5 (c : Dev nD) (h : k0_dev5 c < nD) : (⟨k0_dev5 c, h⟩ : Dev nD) = nb 0 c := Fin.ext ((by decide +kernel : ∀ c : Dev nD, k0_dev5 c = (nb 0 c).val) c)
theorem dst6 (c : Dev nD) (h : k0_dev6 c < nD) : (⟨k0_dev6 c, h⟩ : Dev nD) = nb 0 c := Fin.ext ((by decide +kernel : ∀ c : Dev nD, k0_dev6 c = (nb 0 c).val) c)
theorem dst7 (c : Dev nD) (h : k0_dev7 c < nD) : (⟨k0_dev7 c, h⟩ : Dev nD) = nb 1 c := Fin.ext ((by decide +kernel : ∀ c : Dev nD, k0_dev7 c = (nb 1 c).val) c)
theorem dst8 (c : Dev nD) (h : k0_dev8 c < nD) : (⟨k0_dev8 c, h⟩ : Dev nD) = nb 1 c := Fin.ext ((by decide +kernel : ∀ c : Dev nD, k0_dev8 c = (nb 1 c).val) c)
theorem dst9 (c : Dev nD) (h : k0_dev9 c < nD) : (⟨k0_dev9 c, h⟩ : Dev nD) = nb 2 c := Fin.ext ((by decide +kernel : ∀ c : Dev nD, k0_dev9 c = (nb 2 c).val) c)
theorem dst10 (c : Dev nD) (h : k0_dev10 c < nD) : (⟨k0_dev10 c, h⟩ : Dev nD) = nb 2 c := Fin.ext ((by decide +kernel : ∀ c : Dev nD, k0_dev10 c = (nb 2 c).val) c)
theorem dst11 (c : Dev nD) (h : k0_dev11 c < nD) : (⟨k0_dev11 c, h⟩ : Dev nD) = nb 3 c := Fin.ext ((by decide +kernel : ∀ c : Dev nD, k0_dev11 c = (nb 3 c).val) c)
theorem dst12 (c : Dev nD) (h : k0_dev12 c < nD) : (⟨k0_dev12 c, h⟩ : Dev nD) = nb 3 c := Fin.ext ((by decide +kernel : ∀ c : Dev nD, k0_dev12 c = (nb 3 c).val) c)

/-! ## Memrefs and cells -/

abbrev ctxM : Memref sig .tc .vmem S8x256x128 .bf16 := Memref.whole cc0_scratch0
abbrev crM : Memref sig .tc .vmem S4x8x256x128 .bf16 := Memref.whole cc0_scratch1
abbrev stM : Memref sig .tc .vmem S2x8x256 .f32 := Memref.whole cc0_scratch2
abbrev srM : Memref sig .tc .vmem S4x2x8x256 .f32 := Memref.whole cc0_scratch3

theorem cin (r : Fin 4) : ∀ a, (![r.val, 0, 0, 0] : Fin 4 → Nat) a + S1x8x256x128.size a ≤ S4x8x256x128.size a := by revert r; decide
theorem sin (r : Fin 4) : ∀ a, (![r.val, 0, 0, 0] : Fin 4 → Nat) a + S1x2x8x256.size a ≤ S4x2x8x256.size a := by revert r; decide

abbrev crect (r : Fin 4) : Rect S4x8x256x128 := Rect.unit (s := S4x8x256x128) ![r.val, 0, 0, 0] S1x8x256x128.size (cin r)
abbrev srect (r : Fin 4) : Rect S4x2x8x256 := Rect.unit (s := S4x2x8x256) ![r.val, 0, 0, 0] S1x2x8x256.size (sin r)

/-- The receive slot of round `r` for the context, -/
abbrev cslot (r : Fin 4) : Memref sig .tc .vmem S8x256x128 .bf16 := (crM.slice (crect r) (fun _ => rfl)).squeeze S8x256x128 squeezes_S1x8x256x128_S8x256x128
/-- and for the statistics. -/
abbrev sslot (r : Fin 4) : Memref sig .tc .vmem S2x8x256 .f32 := (srM.slice (srect r) (fun _ => rfl)).squeeze S2x8x256 squeezes_S1x2x8x256_S2x8x256

abbrev barS : Sem sig := (SemArray.scalar (sig.barrier 0 rfl) : Sems sig S_).sem

/-- The transfer semaphore of kind `κ` in round `r`. -/
abbrev dq (κ r : Fin 4) : DmaSem sig := ⟨6 + (4 * κ.val + r.val), by have := κ.isLt; have := r.isLt; show _ < 22; omega⟩

abbrev barCell (c : Dev nD) : GSem nD τ sig := ((c : Thread nD τ), .reg barS)
abbrev cell (κ r : Fin 4) (c : Dev nD) : GSem nD τ sig := ((c : Thread nD τ), .dma (dq κ r))

/-- The kernel's own sixteen semaphores, and all seventeen cells of a device. -/
abbrev osem (k : Fin 16) : SemLoc sig := .dma ⟨6 + k.val, by have := k.isLt; show _ < 22; omega⟩
abbrev csem (k : Fin 17) : SemLoc sig := Fin.cases (.reg barS) osem k
abbrev kcell (ck : Dev nD × Fin 17) : GSem nD τ sig := ((ck.1 : Thread nD τ), csem ck.2)
abbrev oix (κ r : Fin 4) : Fin 16 := ⟨4 * κ.val + r.val, by have := κ.isLt; have := r.isLt; omega⟩
abbrev kx (κ r : Fin 4) : Fin 17 := (oix κ r).succ

theorem kcell_kx (κ r : Fin 4) (c : Dev nD) : kcell (c, kx κ r) = cell κ r c := rfl
theorem kcell_zero (c : Dev nD) : kcell (c, 0) = barCell c := rfl

abbrev NC : ℕ := ctxM.view.dmaCredit
abbrev NS : ℕ := stM.view.dmaCredit
theorem NC_pos : 0 < NC := View.dmaCredit_pos _ (by decide)
theorem NS_pos : 0 < NS := View.dmaCredit_pos _ (by decide)
theorem NC_slot (r : Fin 4) : (cslot r).view.dmaCredit = NC := rfl
theorem NS_slot (r : Fin 4) : (sslot r).view.dmaCredit = NS := rfl

/-! ## Ownership of the buffers -/

abbrev CtxV (F : FTy → Type) : Type := S8x256x128.Idx → Elt F .bf16
abbrev StV (F : FTy → Type) : Type := S2x8x256.Idx → Elt F .f32

def ctxPts (c : Dev nD) (f : CtxV F) : sProp 𝕄 := ctxM.view.loc (c : Thread nD τ) ↦[ctxM.view.set]{fullShare} f
def stPts (c : Dev nD) (f : StV F) : sProp 𝕄 := stM.view.loc (c : Thread nD τ) ↦[stM.view.set]{fullShare} f
/-- A receive slot at some contents, -/
def cFree (r : Fin 4) (c : Dev nD) : sProp 𝕄 := iprop(∃ f : Buf (Elt F) ((cslot r).view.loc (c : Thread nD τ)), (cslot r).view.loc (c : Thread nD τ) ↦[(cslot r).view.set]{fullShare} f)
def sFree (r : Fin 4) (c : Dev nD) : sProp 𝕄 := iprop(∃ f : Buf (Elt F) ((sslot r).view.loc (c : Thread nD τ)), (sslot r).view.loc (c : Thread nD τ) ↦[(sslot r).view.set]{fullShare} f)
/-- and holding the block `X`. -/
def cHas (r : Fin 4) (c : Dev nD) (X : CtxV F) : sProp 𝕄 := iprop(∃ f : Buf (Elt F) ((cslot r).view.loc (c : Thread nD τ)), ⌜(cslot r).view.read (Elt F) f = X⌝ ∗ (cslot r).view.loc (c : Thread nD τ) ↦[(cslot r).view.set]{fullShare} f)
def sHas (r : Fin 4) (c : Dev nD) (X : StV F) : sProp 𝕄 := iprop(∃ f : Buf (Elt F) ((sslot r).view.loc (c : Thread nD τ)), ⌜(sslot r).view.read (Elt F) f = X⌝ ∗ (sslot r).view.loc (c : Thread nD τ) ↦[(sslot r).view.set]{fullShare} f)

omit [FloatOps F] in
instance ctxPts_storable (c : Dev nD) (f : CtxV F) : BI.Storable (upEmb : UEmb _ 𝕄) (ctxPts (F := F) c f) := by unfold ctxPts; infer_instance
omit [FloatOps F] in
instance stPts_storable (c : Dev nD) (f : StV F) : BI.Storable (upEmb : UEmb _ 𝕄) (stPts (F := F) c f) := by unfold stPts; infer_instance
omit [FloatOps F] in
instance cFree_storable (r : Fin 4) (c : Dev nD) : BI.Storable (upEmb : UEmb _ 𝕄) (cFree (F := F) r c) := by unfold cFree; infer_instance
omit [FloatOps F] in
instance sFree_storable (r : Fin 4) (c : Dev nD) : BI.Storable (upEmb : UEmb _ 𝕄) (sFree (F := F) r c) := by unfold sFree; infer_instance
omit [FloatOps F] in
instance cHas_storable (r : Fin 4) (c : Dev nD) (X : CtxV F) : BI.Storable (upEmb : UEmb _ 𝕄) (cHas (F := F) r c X) := by unfold cHas; infer_instance
omit [FloatOps F] in
instance sHas_storable (r : Fin 4) (c : Dev nD) (X : StV F) : BI.Storable (upEmb : UEmb _ 𝕄) (sHas (F := F) r c X) := by unfold sHas; infer_instance

/-! ## The schedule -/

variable (C : Fin 4 → Dev nD → CtxV F) (S : Fin 4 → Dev nD → StV F)

/-- What partner `nb d c`'s unit on `c`'s barrier cell brings: that partner's receive slots of round `d`. -/
def barPay (d : Fin 4) (c : Dev nD) : sProp 𝕄 := iprop(cFree d (nb d c) ∗ sFree d (nb d c))

/-- What the transfer cell of kind `κ` in round `r` brings. -/
def xPay (κ r : Fin 4) (c : Dev nD) : sProp 𝕄 :=
  match κ with
  | 0 => ctxPts c (C r c)
  | 1 => cHas r c (C r (nb r c))
  | 2 => stPts c (S r c)
  | 3 => sHas r c (S r (nb r c))

omit [FloatOps F] in
instance xPay_storable (κ r : Fin 4) (c : Dev nD) : BI.Storable (upEmb : UEmb _ 𝕄) (xPay C S κ r c) := by
  match κ with
  | 0 => exact ctxPts_storable _ _
  | 1 => exact cHas_storable _ _ _
  | 2 => exact stPts_storable _ _
  | 3 => exact sHas_storable _ _ _

def amt (κ : Fin 4) : ℕ := if κ.val < 2 then NC else NS
theorem amt_pos (κ : Fin 4) : 0 < amt κ := by unfold amt; split; exacts [NC_pos, NS_pos]

/-- The kind and the round of a transfer semaphore. -/
def kindOf (q : DmaSem sig) : Fin 4 := ⟨(q.val - 6) / 4 % 4, Nat.mod_lt _ (by decide)⟩
def roundOf (q : DmaSem sig) : Fin 4 := ⟨(q.val - 6) % 4, Nat.mod_lt _ (by decide)⟩
theorem kindOf_dq (κ r : Fin 4) : kindOf (dq κ r) = κ := by revert κ r; decide
theorem roundOf_dq (κ r : Fin 4) : roundOf (dq κ r) = r := by revert κ r; decide

def sched : Rounds.Schedule (GSem nD τ sig) (Fin 4) 𝕄 where
  duties g r := if r = 0 ∧ g.1.2 = .tc then (match g.2 with | .reg _ => Finset.univ | .dma q => if 6 ≤ q.val then {0} else ∅) else ∅
  unitless _ := False
  amount g _ _ := match g.2 with | .reg _ => 1 | .dma q => amt (kindOf q)
  payload g _ d := match g.2 with | .reg _ => barPay d g.1.1 | .dma q => xPay C S (kindOf q) (roundOf q) g.1.1
  amount_pos g _ _ _ := by
    split
    · exact Nat.one_pos
    · exact amt_pos _

instance sched_storable (g : GSem nD τ sig) (r : ℕ) (d : Fin 4) : BI.Storable (upEmb : UEmb _ 𝕄) ((sched C S).payload g r d) := by
  obtain ⟨t, _ | q⟩ := g
  · show BI.Storable upEmb (barPay d t.1); unfold barPay; infer_instance
  · show BI.Storable upEmb (xPay C S (kindOf q) (roundOf q) t.1); infer_instance

section Sched
variable (κ r : Fin 4) (c : Dev nD)

omit [FloatOps F] in
theorem duties_bar : (sched C S).duties (barCell c) 0 = Finset.univ := rfl
omit [FloatOps F] in
theorem duties_cell : (sched C S).duties (cell κ r c) 0 = {0} := by
  show (if (0 : ℕ) = 0 ∧ (Proc.tc : Proc τ) = .tc then (if 6 ≤ (dq κ r).val then ({0} : Finset (Fin 4)) else ∅) else ∅) = _
  rw [if_pos ⟨rfl, rfl⟩, if_pos (Nat.le_add_right _ _)]
omit [FloatOps F] in
theorem duties_later (g : GSem nD τ sig) : ∀ R, 1 ≤ R → (sched C S).duties g R = ∅ :=
  fun R hR => if_neg fun h => by omega
omit [FloatOps F] in
theorem amount_bar (d : Fin 4) : (sched C S).amount (barCell c) 0 d = 1 := rfl
omit [FloatOps F] in
theorem amount_cell (d : Fin 4) : (sched C S).amount (cell κ r c) 0 d = amt κ := congrArg amt (kindOf_dq κ r)
omit [FloatOps F] in
theorem expect_bar : (sched C S).expect (barCell c) 0 = 4 := by
  unfold Schedule.expect Schedule.amountOf
  rw [duties_bar, Finset.sum_congr rfl fun d _ => amount_bar C S c d]; rfl
omit [FloatOps F] in
theorem expect_cell : (sched C S).expect (cell κ r c) 0 = amt κ := by
  unfold Schedule.expect Schedule.amountOf; rw [duties_cell, Finset.sum_singleton, amount_cell]
omit [FloatOps F] in
theorem payload_bar (d : Fin 4) : (sched C S).payload (barCell c) 0 d = barPay d c := rfl
omit [FloatOps F] in
theorem payload_cell (d : Fin 4) : (sched C S).payload (cell κ r c) 0 d = xPay C S κ r c := by
  show xPay C S (kindOf (dq κ r)) (roundOf (dq κ r)) c = _; rw [kindOf_dq, roundOf_dq]
omit [FloatOps F] in
theorem rest_bar : bigSep ((sched C S).duties (barCell c) 0 \ ∅) (fun d => (sched C S).payload (barCell c) 0 d)
    = bigSep Finset.univ fun d => barPay (F := F) d c := by
  rw [Finset.sdiff_empty, duties_bar]; rfl
omit [FloatOps F] in
theorem rest_cell : bigSep ((sched C S).duties (cell κ r c) 0 \ ∅) (fun d => (sched C S).payload (cell κ r c) 0 d) = xPay C S κ r c := by
  rw [Finset.sdiff_empty, duties_cell, bigSep_singleton, payload_cell]

end Sched

/-! ## Debts and levels -/

/-- What device `c` owes for round `r`: the credit of the two transfers into its partner, the context's paid first. -/
def due (r : Fin 4) (c : Dev nD) (O : CellTallies nD τ sig Unit) : CellTallies nD τ sig Unit :=
  O + tallyAt (cell 3 r (nb r c)) () NS + tallyAt (cell 1 r (nb r c)) () NC
/-- What is owed once the handshake is over, and from each later round on. -/
def X3 (c : Dev nD) : CellTallies nD τ sig Unit := due 3 c 0
def X2 (c : Dev nD) : CellTallies nD τ sig Unit := due 2 c (X3 c)
def X1 (c : Dev nD) : CellTallies nD τ sig Unit := due 1 c (X2 c)
def X0 (c : Dev nD) : CellTallies nD τ sig Unit := due 0 c (X1 c)
def barDue (r : Fin 4) (c : Dev nD) : CellTallies nD τ sig Unit := tallyAt (barCell (nb r c)) () 1
def O₀ (c : Dev nD) : CellTallies nD τ sig Unit := X0 c + barDue 3 c + barDue 2 c + barDue 1 c + barDue 0 c

def L (g : GSem nD τ sig) : Finset Unit := if g.1.2 = .tc then {()} else ∅
/-- Barrier cells at 1, the receive cells of round `r` at `r + 2`, everything else at 0. -/
def lv (g : GSem nD τ sig) (_ : Unit) : ℕ := match g.2 with
  | .reg _ => 1
  | .dma q => if 6 ≤ q.val ∧ (kindOf q).val % 2 = 1 then (roundOf q).val + 2 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed under `O` sits on a TensorCore's cell above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O P : CellTallies nD τ sig Unit} (hO : Above n O) (hP : Above n P) : Above n (O + P) := fun g u h => by
  rw [Pi.add_apply, Finsupp.add_apply] at h
  rcases Nat.eq_zero_or_pos (O g u) with h0 | h0
  · exact hP g u (by omega)
  · exact hO g u h0
theorem Above.at {n : ℕ} (c : Dev nD) (sm : SemLoc sig) (k : ℕ) (h : n < lv ((c : Thread nD τ), sm) ()) :
    Above n (tallyAt ((c : Thread nD τ), sm) () k) := fun g u hg => by
  obtain ⟨rfl, -⟩ := Pipeline.tallyAt_pos hg; exact ⟨rfl, h⟩
theorem Above.mono {n n' : ℕ} (h : n' ≤ n) {O : CellTallies nD τ sig Unit} (hO : Above n O) : Above n' O :=
  fun g u hg => ⟨(hO g u hg).1, Nat.lt_of_le_of_lt h (hO g u hg).2⟩

theorem lv_recv (r : Fin 4) (c : Dev nD) : lv (cell 1 r c) () = r.val + 2 ∧ lv (cell 3 r c) () = r.val + 2 := by
  constructor <;> (show (if _ then _ else _) = _; rw [kindOf_dq, roundOf_dq, if_pos ⟨Nat.le_add_right _ _, rfl⟩])
theorem lv_send (r : Fin 4) (c : Dev nD) : lv (cell 0 r c) () = 0 ∧ lv (cell 2 r c) () = 0 := by
  constructor <;> (show (if _ then _ else _) = _; rw [kindOf_dq, if_neg (fun h => by have := h.2; revert this; decide)])

theorem above_st (r : Fin 4) (c : Dev nD) {n : ℕ} (hn : n ≤ r.val + 1) {O : CellTallies nD τ sig Unit} (hO : Above n O) :
    Above n (O + tallyAt (cell 3 r (nb r c)) () NS) :=
  hO.add (Above.at _ _ _ (by rw [(lv_recv r (nb r c)).2]; omega))
theorem above_due (r : Fin 4) (c : Dev nD) {n : ℕ} (hn : n ≤ r.val + 1) {O : CellTallies nD τ sig Unit} (hO : Above n O) : Above n (due r c O) :=
  (above_st r c hn hO).add (Above.at _ _ _ (by rw [(lv_recv r (nb r c)).1]; omega))

theorem above_X3 (c : Dev nD) : Above 4 (X3 c) := above_due 3 c (by decide) (Above.zero _)
theorem above_X2 (c : Dev nD) : Above 3 (X2 c) := above_due 2 c (by decide) ((above_X3 c).mono (by decide))
theorem above_X1 (c : Dev nD) : Above 2 (X1 c) := above_due 1 c (by decide) ((above_X2 c).mono (by decide))
theorem above_X0 (c : Dev nD) : Above 1 (X0 c) := above_due 0 c (by decide) ((above_X1 c).mono (by decide))
theorem above_bar (r : Fin 4) (c : Dev nD) : Above 0 (barDue r c) := Above.at _ _ _ Nat.zero_lt_one
theorem above_O₀ (c : Dev nD) : Above 0 (O₀ c) :=
  (((((above_X0 c).mono (by decide)).add (above_bar 3 c)).add (above_bar 2 c)).add (above_bar 1 c)).add (above_bar 0 c)

omit [FloatOps F] in
/-- A device may wait on a cell of its own below everything it owes. -/
theorem mayWait (c : Dev nD) (sm : SemLoc sig) {O : CellTallies nD τ sig Unit} (n : ℕ) (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.Exchange

end
-- ==== Proof.Flat.lean ====
/-
The kernel's body in the shape the proof walks: a handshake, the loads, the local attention partials, three equal
exchange rounds and a last one. The body is that text by unfolding.
-/
module

public import proofs.«01_k».proof.Proof.Proto

@[expose] public section

set_option maxRecDepth 65536

noncomputable section

namespace Cert.Exchange

open Cert.KernelIdeal Cert.KernelIdeal.Gen

open Idealize.ShloMosaic
open Idealize.ShloMosaic.TcCoe
open Idealize.SL.Sem

variable {F : FTy → Type} [FloatOps F]

/-! ## The local partials: query block `b`, head `h` -/

theorem slK (b : Fin 4) : S16x4x64x8x128.Slices ![0, b.val, 0, 0, 0] S16x1x64x8x128 := by revert b; decide
theorem slQ (b : Fin 4) : S256x1024.Slices ![64 * b.val, 0] S64x1024 := by revert b; decide
theorem slq (h : Fin 8) : S64x8x128.Slices ![0, h.val, 0] S64x1x128 := by revert h; decide
theorem slk (h : Fin 8) : S1024x8x128.Slices ![0, h.val, 0] S1024x1x128 := by revert h; decide

/-- The keys (or values) of block `b`, from the device's cut reshaped in groups of four blocks. -/
def keysOf (b : Fin 4) (k : FVec F S16x4x64x8x128 .bf16) : FVec F S1024x8x128 .bf16 :=
  shapeCast S1024x8x128 (shapeCast S16x64x8x128 (extractStridedSlice S16x1x64x8x128 ![0, b.val, 0, 0, 0] k (slK b)) shapeCasts_S16x1x64x8x128_S16x64x8x128) shapeCasts_S16x64x8x128_S1024x8x128
def queriesOf (b : Fin 4) (q : FVec F S256x1024 .f32) : FVec F S64x8x128 .bf16 :=
  truncf .bf16 (shapeCast S64x8x128 (extractStridedSlice S64x1024 ![64 * b.val, 0] q (slQ b)) shapeCasts_S64x1024_S64x8x128) bitsLt_bf16_f32

def headK (h : Fin 8) (k : FVec F S1024x8x128 .bf16) : FVec F S1024x128 .bf16 :=
  shapeCast S1024x128 (extractStridedSlice S1024x1x128 ![0, h.val, 0] k (slk h)) shapeCasts_S1024x1x128_S1024x128
def headQ (h : Fin 8) (q : FVec F S64x8x128 .bf16) : FVec F S64x128 .bf16 :=
  shapeCast S64x128 (extractStridedSlice S64x1x128 ![0, h.val, 0] q (slq h)) shapeCasts_S64x1x128_S64x128

def score (q : FVec F S64x128 .bf16) (k : FVec F S1024x128 .bf16) : FVec F S64x1024 .f32 :=
  mulf (matmul dot_S64x128_S1024x128_S64x1024_1_1_0_0_n_n none q k (constant S64x1024 .f32 0x00000000#32)) (broadcast S64x1024 (Scalar.ofBits .f32 0x3DB504F3#32))
def smax (s : FVec F S64x1024 .f32) : FVec F S64 .f32 := multiReduction .maximumf [1] S64 s 0xFF800000#32 reduces_S64x1024_S64 (.inl rfl) rfl
def wexp (s : FVec F S64x1024 .f32) : FVec F S64x1024 .f32 :=
  exp (subf s (broadcastTo S64x1024 (shapeCast S64x1 (smax s) shapeCasts_S64_S64x1) broadcasts_S64x1_S64x1024))
def wsum (s : FVec F S64x1024 .f32) : FVec F S64 .f32 := multiReduction .add [1] S64 (wexp s) 0x00000000#32 reduces_S64x1024_S64 (.inl rfl) rfl
def wctx (s : FVec F S64x1024 .f32) (v : FVec F S1024x128 .bf16) : FVec F S64x128 .f32 :=
  matmul dot_S64x1024_S1024x128_S64x128_1_0_0_1_n_n none (truncf .bf16 (wexp s) bitsLt_bf16_f32) v (constant S64x128 .f32 0x00000000#32)

def stack2 (f : Fin 8 → FVec F S64 .f32) : FVec F S8x64 .f32 :=
  concatenate S8x64 0 [⟨S1x64, shapeCast S1x64 (f 0) shapeCasts_S64_S1x64⟩, ⟨S1x64, shapeCast S1x64 (f 1) shapeCasts_S64_S1x64⟩, ⟨S1x64, shapeCast S1x64 (f 2) shapeCasts_S64_S1x64⟩, ⟨S1x64, shapeCast S1x64 (f 3) shapeCasts_S64_S1x64⟩, ⟨S1x64, shapeCast S1x64 (f 4) shapeCasts_S64_S1x64⟩, ⟨S1x64, shapeCast S1x64 (f 5) shapeCasts_S64_S1x64⟩, ⟨S1x64, shapeCast S1x64 (f 6) shapeCasts_S64_S1x64⟩, ⟨S1x64, shapeCast S1x64 (f 7) shapeCasts_S64_S1x64⟩] concatenates_S1x64_S1x64_S1x64_S1x64_S1x64_S1x64_S1x64_S1x64_S8x64_d0
def stack3 (f : Fin 8 → FVec F S64x128 .f32) : FVec F S8x64x128 .f32 :=
  concatenate S8x64x128 0 [⟨S1x64x128, shapeCast S1x64x128 (f 0) shapeCasts_S64x128_S1x64x128⟩, ⟨S1x64x128, shapeCast S1x64x128 (f 1) shapeCasts_S64x128_S1x64x128⟩, ⟨S1x64x128, shapeCast S1x64x128 (f 2) shapeCasts_S64x128_S1x64x128⟩, ⟨S1x64x128, shapeCast S1x64x128 (f 3) shapeCasts_S64x128_S1x64x128⟩, ⟨S1x64x128, shapeCast S1x64x128 (f 4) shapeCasts_S64x128_S1x64x128⟩, ⟨S1x64x128, shapeCast S1x64x128 (f 5) shapeCasts_S64x128_S1x64x128⟩, ⟨S1x64x128, shapeCast S1x64x128 (f 6) shapeCasts_S64x128_S1x64x128⟩, ⟨S1x64x128, shapeCast S1x64x128 (f 7) shapeCasts_S64x128_S1x64x128⟩] concatenates_S1x64x128_S1x64x128_S1x64x128_S1x64x128_S1x64x128_S1x64x128_S1x64x128_S1x64x128_S8x64x128_d0
def row2 (f : Fin 4 → FVec F S8x64 .f32) : FVec F S8x256 .f32 :=
  concatenate S8x256 1 [⟨S8x64, f 0⟩, ⟨S8x64, f 1⟩, ⟨S8x64, f 2⟩, ⟨S8x64, f 3⟩] concatenates_S8x64_S8x64_S8x64_S8x64_S8x256_d1
def row3 (f : Fin 4 → FVec F S8x64x128 .f32) : FVec F S8x256x128 .f32 :=
  concatenate S8x256x128 1 [⟨S8x64x128, f 0⟩, ⟨S8x64x128, f 1⟩, ⟨S8x64x128, f 2⟩, ⟨S8x64x128, f 3⟩] concatenates_S8x64x128_S8x64x128_S8x64x128_S8x64x128_S8x256x128_d1

section Local
variable (x : Vec F S1x256x1024 .f32) (wq : Vec F S1024x1024 .f32) (K V : Vec F S1x4096x8x128 .f32)

/-- The scores of query block `b`, head `h`, against the device's keys of that block. -/
def scores (b : Fin 4) (h : Fin 8) : FVec F S64x1024 .f32 := score (headQ h (queriesOf b (k0_pay2 x wq))) (headK h (keysOf b (k0_pay3 K)))
def locM : FVec F S8x256 .f32 := row2 fun b => stack2 fun h => smax (scores x wq K b h)
def locL : FVec F S8x256 .f32 := row2 fun b => stack2 fun h => wsum (scores x wq K b h)
def locC : FVec F S8x256x128 .f32 := row3 fun b => stack3 fun h => wctx (scores x wq K b h) (headK h (keysOf b (k0_pay4 V)))
end Local

/-! ## The program -/

abbrev PR (F : FTy → Type) [FloatOps F] (α : Type) : Type 1 := Prog (TpuEff nD τ sig (Elt F) Λ₀ .tc) α

abbrev r3x : Rect S1x256x1024 := Rect.unit (s := S1x256x1024) ![0, 0, 0] S1x256x1024.size inb_S1x256x1024_S1x256x1024_0_0_0
abbrev r2w : Rect S1024x1024 := Rect.unit (s := S1024x1024) ![0, 0] S1024x1024.size inb_S1024x1024_S1024x1024_0_0
abbrev r4k : Rect S1x4096x8x128 := Rect.unit (s := S1x4096x8x128) ![0, 0, 0, 0] S1x4096x8x128.size inb_S1x4096x8x128_S1x4096x8x128_0_0_0_0
abbrev r3c : Rect S8x256x128 := Rect.unit (s := S8x256x128) ![0, 0, 0] S8x256x128.size inb_S8x256x128_S8x256x128_0_0_0

theorem inSt (k : Fin 2) : ∀ a, (![k.val, 0, 0] : Fin 3 → Nat) a + S1x8x256.size a ≤ S2x8x256.size a := by revert k; decide
theorem inSr (r : Fin 4) (k : Fin 2) : ∀ a, (![r.val, k.val, 0, 0] : Fin 4 → Nat) a + S1x1x8x256.size a ≤ S4x2x8x256.size a := by revert r k; decide
abbrev rSt (k : Fin 2) : Rect S2x8x256 := Rect.unit (s := S2x8x256) ![k.val, 0, 0] S1x8x256.size (inSt k)
abbrev rSr (r : Fin 4) (k : Fin 2) : Rect S4x2x8x256 := Rect.unit (s := S4x2x8x256) ![r.val, k.val, 0, 0] S1x1x8x256.size (inSr r k)

theorem wordsC (r : Fin 4) : (crect r).WholeWords (EltTy.packing .bf16) := by revert r; decide

theorem ctx_exact : (ctxM : Memref sig .tc .vmem S8x256x128 .bf16).view.WordExact := (Memref.isWhole_whole cc0_scratch0).wordExact
theorem cslot_exact (r : Fin 4) : (cslot r).view.WordExact := ((Memref.isWhole_whole cc0_scratch1).wordExact_slice rfl _ (wordsC r)).reshape _ _
theorem st_exact : (stM : Memref sig .tc .vmem S2x8x256 .f32).view.WordExact := (Memref.isWhole_whole cc0_scratch2).wordExact
theorem sslot_exact (r : Fin 4) : (sslot r).view.WordExact := (View.wordExact_bits rfl).reshape _ _

/-- Load of the context, of row `k` of the statistics, and of the received ones. -/
def ldC : PR F (Vec F S8x256x128 .bf16) := Prog.lift (.load ctxM r3c.toLoadRect (View.loadsAt_vmem h_S8x256x128))
def ldS (k : Fin 2) : PR F (Vec F S1x8x256 .f32) := Prog.lift (.load stM (rSt k).toLoadRect (View.loadsAt_vmem h_S1x8x256))
def ldCr (r : Fin 4) : PR F (Vec F S1x8x256x128 .bf16) := Prog.lift (.load crM (crect r).toLoadRect (View.loadsAt_vmem h_S1x8x256x128))
def ldSr (r : Fin 4) (k : Fin 2) : PR F (Vec F S1x1x8x256 .f32) := Prog.lift (.load srM (rSr r k).toLoadRect (View.loadsAt_vmem h_S1x1x8x256))
def stC (v : Vec F S8x256x128 .bf16) : PR F PUnit :=
  Prog.lift (.store ctxM r3c v Finset.univ (View.stores_vmem h_S8x256x128 ((Memref.isWhole_whole cc0_scratch0).storeExact_slice rfl _ packedbf16_S8x256x128_S8x256x128_0_0_0) (fun _ => rfl)) (.inl rfl))
def stS (k : Fin 2) (v : Vec F S1x8x256 .f32) : PR F PUnit :=
  Prog.lift (.store stM (rSt k) v Finset.univ (View.stores_vmem_bits_univ h_S1x8x256 rfl) (.inl rfl))

/-- The three values written back, each read first. -/
def put (c : Vec F S8x256x128 .bf16) (m l : Vec F S1x8x256 .f32) : PR F PUnit := do
  let _ ← ldC; stC c; let _ ← ldS 0; stS 0 m; let _ ← ldS 1; stS 1 l

def hand (d : Dev nD) : PR F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semWaitWord barS 4#32

/-- The transfers of round `r`, towards device `n` (the context) and `n'` (the statistics), and the four waits. -/
def comm (r : Fin 4) (n n' : Dev nD) : PR F PUnit := do
  Prog.lift (.enqueueDma ctxM (.remote (Dev.tc n) (cslot r) (.dma (dq 0 r))) (.dma (dq 1 r)) ctx_exact (cslot_exact r) ⟨⟨rfl, Or.inl rfl⟩, trivial⟩)
  Prog.lift (.enqueueDma stM (.remote (Dev.tc n') (sslot r) (.dma (dq 2 r))) (.dma (dq 3 r)) st_exact (sslot_exact r) ⟨⟨rfl, Or.inl rfl⟩, trivial⟩)
  Prog.lift (.waitDma2 (dq 0 r) (cslot r) ctxM (cslot_exact r) ctx_exact)
  Prog.lift (.waitDma2 (dq 1 r) ctxM (cslot r) ctx_exact (cslot_exact r))
  Prog.lift (.waitDma2 (dq 2 r) (sslot r) stM (sslot_exact r) st_exact)
  Prog.lift (.waitDma2 (dq 3 r) stM (sslot r) st_exact (sslot_exact r))

/-- A round that writes the merged partials back. -/
def round (r : Fin 4) (n n' : Dev nD) : PR F PUnit := do
  comm r n n'
  let m ← ldS 0; let l ← ldS 1; let c ← ldC
  let pm ← ldSr r 0; let pl ← ldSr r 1; let pc ← ldCr r
  put (k0_pay224 (k0_pay223 m c pm pc)) (k0_pay225 (k0_pay220 m pm)) (k0_pay226 (k0_pay217 l) (k0_pay219 pl) (k0_pay221 m pm) (k0_pay222 m pm))

def lastRound (wo : Memref sig .tc .vmem S1024x1024 .f32) (o : Memref sig .tc .vmem S1x256x1024 .f32) (n n' : Dev nD) : PR F PUnit := do
  comm 3 n n'
  let m ← ldS 0; let l ← ldS 1; let c ← ldC
  let pm ← ldSr 3 0; let pl ← ldSr 3 1; let pc ← ldCr 3
  let w ← Prog.lift (.load wo r2w.toLoadRect (View.loadsAt_vmem h_S1024x1024))
  let _ ← Prog.lift (.load o r3x.toLoadRect (View.loadsAt_vmem h_S1x256x1024))
  Prog.lift (.store o r3x (k0_pay1 (k0_pay247 l) (k0_pay249 pl) (k0_pay250 pc) (k0_pay252 m pm) (k0_pay253 m pm) (k0_pay254 m c pm) (k0_pay255 m pm) w) Finset.univ (View.stores_vmem_bits_univ h_S1x256x1024 rfl) (.inl rfl))

section Body
variable (arg0 : Memref sig .tc .vmem S1x256x1024 .f32) (harg0 : arg0.IsWhole) (arg1 : Memref sig .tc .vmem S1024x1024 .f32) (harg1 : arg1.IsWhole) (arg2 : Memref sig .tc .vmem S1x4096x8x128 .f32) (harg2 : arg2.IsWhole) (arg3 : Memref sig .tc .vmem S1x4096x8x128 .f32) (harg3 : arg3.IsWhole) (arg4 : Memref sig .tc .vmem S1024x1024 .f32) (harg4 : arg4.IsWhole) (arg5 : Memref sig .tc .vmem S1x256x1024 .f32) (harg5 : arg5.IsWhole)

def flat : PR F PUnit := do
  let d ← Prog.lift .deviceId
  hand d
  let x ← Prog.lift (.load arg0 r3x.toLoadRect (View.loadsAt_vmem h_S1x256x1024))
  let wq ← Prog.lift (.load arg1 r2w.toLoadRect (View.loadsAt_vmem h_S1024x1024))
  let K ← Prog.lift (.load arg2 r4k.toLoadRect (View.loadsAt_vmem h_S1x4096x8x128))
  let V ← Prog.lift (.load arg3 r4k.toLoadRect (View.loadsAt_vmem h_S1x4096x8x128))
  put (shapeCast S8x256x128 (truncf .bf16 (locC x wq K V) bitsLt_bf16_f32) shapeCasts_S8x256x128_S8x256x128) (shapeCast S1x8x256 (locM x wq K) shapeCasts_S8x256_S1x8x256) (shapeCast S1x8x256 (locL x wq K) shapeCasts_S8x256_S1x8x256)
  round 0 ⟨k0_dev5 d, k0_dev5_lt d⟩ ⟨k0_dev6 d, k0_dev6_lt d⟩
  round 1 ⟨k0_dev7 d, k0_dev7_lt d⟩ ⟨k0_dev8 d, k0_dev8_lt d⟩
  round 2 ⟨k0_dev9 d, k0_dev9_lt d⟩ ⟨k0_dev10 d, k0_dev10_lt d⟩
  lastRound arg4 arg5 ⟨k0_dev11 d, k0_dev11_lt d⟩ ⟨k0_dev12 d, k0_dev12_lt d⟩

theorem body_flat : cc0_body (F := F) arg0 harg0 arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 = flat arg0 arg1 arg2 arg3 arg4 arg5 := by
  rfl
end Body

end Cert.Exchange

end
-- ==== Proof.Step.lean ====
/-
The steps of the body: one rule for a partner's signal, one for the handshake's wait, one for each of a round's two
transfers, one for each wait on a transfer cell, and the whole of a round's communication.
-/
module

public import proofs.«01_k».proof.Proof.Flat

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's run from device `c`'s program `p` to `Q`. -/
abbrev W {α : Type} (c : Dev nD) (p : PR F α) (Q : α → sProp 𝕄) : sProp 𝕄 :=
  wp frame (wpE (defs₀ (F := F)) 𝒱₀ (c : Thread nD τ) none) Set.univ p Q

variable (C : Fin 4 → Dev nD → CtxV F) (S : Fin 4 → Dev nD → StV F) (K : Dev nD × Fin 17 → ℕ)

/-- Every cell's invariant and its round-zero mark: persistent, known to all. -/
def records : sProp 𝕄 :=
  iprop((bigSep Finset.univ fun ck : Dev nD × Fin 17 => cellInv ER (sched C S) (K ck) (kcell ck))
    ∗ bigSep Finset.univ fun ck : Dev nD × Fin 17 => reached ER (kcell ck) 0)

omit [FloatOps F] in
instance records_persistent : BI.Persistent (records C S K) := by unfold records; infer_instance

omit [FloatOps F] in
theorem inv_at (ck : Dev nD × Fin 17) : records C S K ⊢ cellInv ER (sched C S) (K ck) (kcell ck) := by
  have h : (bigSep Finset.univ fun ck : Dev nD × Fin 17 => (cellInv ER (sched C S) (K ck) (kcell ck) : sProp 𝕄)) ⊢ cellInv ER (sched C S) (K ck) (kcell ck) := bigSep_elim (Finset.mem_univ ck)
  unfold records; iintro ⟨#H, -⟩; iapply h; iexact H
omit [FloatOps F] in
theorem reached_at (ck : Dev nD × Fin 17) : records C S K ⊢ reached ER (kcell ck) 0 := by
  have h : (bigSep Finset.univ fun ck : Dev nD × Fin 17 => (reached ER (kcell ck) 0 : sProp 𝕄)) ⊢ reached ER (kcell ck) 0 := bigSep_elim (Finset.mem_univ ck)
  unfold records; iintro ⟨-, #H⟩; iapply h; iexact H

/-- What device `c` owes, whatever it has waited for. -/
def owe (c : Dev nD) (O : CellTallies nD τ sig Unit) : sProp 𝕄 := iprop(∃ A, owes (c : Thread nD τ) O A)

/-- The signal to the partner of round `r`: `c`'s receive slots of that round go with it. -/
theorem wp_sig (r : Fin 4) (c : Dev nD) (O : CellTallies nD τ sig Unit) {α : Type} {Q : α → sProp 𝕄} {k : PUnit → PR F α} :
    iprop(records C S K ∗ owe c (O + barDue r c) ∗ dutyTok ER (barCell (nb r c)) 0 r ∗ cFree r c ∗ sFree r c)
      ⊢ iprop((owe c O -∗ W c (k ⟨⟩) Q) -∗ W c (.op (.semSignal (nb r c : Thread nD τ) barS (1#32 : BitVec 32).toNat) k) Q) := by
  unfold owe
  iintro ⟨#HR, ⟨%A, HO⟩, Ht, Hc, Hs⟩ Hk
  iapply (Rounds.wp_signal 𝒱₀ ER (sched C S) (c : Thread nD τ) none (dst := (nb r c : Thread nD τ)) (κ := K (nb r c, 0))
      (d := r) (by rw [duties_bar]; exact Finset.mem_univ _) ((amount_bar C S (nb r c) r).trans (by decide)) () O rfl)
    $$ [HO Ht Hc Hs]
  · isplitr; · iapply (inv_at C S K (nb r c, 0)); iexact HR
    isplitl [HO]; · iexact HO
    isplitl [Ht]; · iexact Ht
    isplitl [Hc Hs]
    · rw [payload_bar]; unfold barPay; rw [nb_nb]
      isplitl [Hc] <;> iassumption
    iapply (reached_at C S K (nb r c, 0)); iexact HR
  iintro HO
  iapply Hk; iexists A; iexact HO

/-- The wait for the four partners: their receive slots. -/
theorem wp_bar (c : Dev nD) (O : CellTallies nD τ sig Unit) (hO : Above 1 O) {α : Type} {Q : α → sProp 𝕄} {k : PUnit → PR F α} :
    iprop(records C S K ∗ levAts L lv ∗ owe c O ∗ cred (tallyAt (barCell c) () 4) ∗ atPos ER (barCell c) 0 ∅ 0)
      ⊢ iprop(((owe c O ∗ semVal (barCell c) 0 ∗ bigSep Finset.univ fun d => barPay d c) -∗ W c (k ⟨⟩) Q)
          -∗ W c (.op (.semWait barS (4#32 : BitVec 32).toNat) k) Q) := by
  unfold owe
  iintro ⟨#HR, #Hlev, ⟨%A, HO⟩, Hcr, Hat⟩ Hk
  iapply (Rounds.wp_wait_rest_token 𝒱₀ ER (sched C S) (c : Thread nD τ) none (κ := K (c, 0))
      (wpE_semWait_eq 𝒱₀ (c : Thread nD τ) none Set.univ) (Set.mem_univ _) () (O := O) (W := A) (R := 0) (m := 0) (T := ∅)
      (by rw [expect_bar]; decide)) $$ [Hcr HO Hat]
  · isplitr; · iapply (inv_at C S K (c, 0)); iexact HR
    isplitl [Hcr]; · iexact Hcr
    isplitl [HO]; · iexact HO
    isplitr; · iapply (mayWait c (.reg barS) 1 (Nat.le_refl 1) hO); iexact Hlev
    iexact Hat
  iintro ⟨HO, Hat, -, Hpay⟩
  ihave Hp := (Entails.of_eq (rest_bar C S c)) $$ Hpay
  imod (Rounds.cell_close ER (sched C S) (Set.mem_univ (K (c, 0))) (fun h => h) (R := 0 + 1) (duties_later C S (barCell c))) $$ [Hat] with Hz
  · isplitr; · iapply (inv_at C S K (c, 0)); iexact HR
    iexact Hat
  iapply Hk
  isplitl [HO]; · iexists _; iexact HO
  isplitl [Hz] <;> iassumption

theorem crd0 : (ctxM : Memref sig .tc .vmem S8x256x128 .bf16).view.dmaCredit = amt 0 := (if_pos (by decide)).symm
theorem crd1 (r : Fin 4) : (cslot r).view.dmaCredit = amt 1 := (NC_slot r).trans (if_pos (by decide)).symm
theorem crd2 : (stM : Memref sig .tc .vmem S2x8x256 .f32).view.dmaCredit = amt 2 := (if_neg (by decide)).symm
theorem crd3 (r : Fin 4) : (sslot r).view.dmaCredit = amt 3 := (NS_slot r).trans (if_neg (by decide)).symm

/-- A wait on one of `c`'s transfer cells: what it brings, and the cell back at zero. -/
theorem wp_xwait (κ r : Fin 4) (c : Dev nD) (O : CellTallies nD τ sig Unit) (n : ℕ) (hn : lv (cell κ r c) () ≤ n) (hO : Above n O)
    {sp sp' : Space} {s s' : Shape} {e e' : EltTy} {a : Memref sig (c : Thread nD τ).2.kind sp s e} {b : Memref sig (c : Thread nD τ).2.kind sp' s' e'}
    {ha : a.view.WordExact} {hb : b.view.WordExact} (hN : b.view.dmaCredit = amt κ) {α : Type} {Q : α → sProp 𝕄} {k : PUnit → PR F α} :
    iprop(records C S K ∗ levAts L lv ∗ owe c O ∗ cred (tallyAt (cell κ r c) () (amt κ)) ∗ atPos ER (cell κ r c) 0 ∅ 0)
      ⊢ iprop(((owe c O ∗ semVal (cell κ r c) 0 ∗ xPay C S κ r c) -∗ W c (k ⟨⟩) Q)
          -∗ W c (.op (.waitDma2 (dq κ r) a b ha hb) k) Q) := by
  unfold owe
  iintro ⟨#HR, #Hlev, ⟨%A, HO⟩, Hcr, Hat⟩ Hk
  rw [← hN]
  iapply (Rounds.wp_wait_rest_token 𝒱₀ ER (sched C S) (c : Thread nD τ) none (κ := K (c, kx κ r))
      (wpE_waitDma2_eq 𝒱₀ (c : Thread nD τ) none Set.univ) (Set.mem_univ _) () (O := O) (W := A) (R := 0) (m := 0) (T := ∅)
      (by rw [Nat.zero_add, expect_cell]; exact hN)) $$ [Hcr HO Hat]
  · isplitr; · iapply (inv_at C S K (c, kx κ r)); iexact HR
    isplitl [Hcr]; · iexact Hcr
    isplitl [HO]; · iexact HO
    isplitr; · iapply (mayWait c (.dma (dq κ r)) n hn hO); iexact Hlev
    iexact Hat
  iintro ⟨HO, Hat, -, Hpay⟩
  ihave Hp := (Entails.of_eq (rest_cell C S κ r c)) $$ Hpay
  imod (Rounds.cell_close ER (sched C S) (Set.mem_univ (K (c, kx κ r))) (fun h => h) (R := 0 + 1) (duties_later C S (cell κ r c))) $$ [Hat] with Hz
  · isplitr; · iapply (inv_at C S K (c, kx κ r)); iexact HR
    iexact Hat
  iapply Hk
  isplitl [HO]; · iexists _; iexact HO
  isplitl [Hz] <;> iassumption

/-- The transfer of the context into the partner's slot, -/
theorem wp_ctx (r : Fin 4) (c n : Dev nD) (hn : n = nb r c) (O : CellTallies nD τ sig Unit)
    {hsc : (cslot r : Memref sig (Dev.tc n : Thread nD τ).2.kind .vmem S8x256x128 .bf16).view.ref.isScScratch = false}
    {hsrc : (ctxM : Memref sig .tc .vmem S8x256x128 .bf16).view.WordExact} {hdst : (cslot r).view.WordExact}
    {hsem : DmaTarget.Typed .vmem (.dma (dq 1 r)) (.remote (Dev.tc n : Thread nD τ) (cslot r) (.dma (dq 0 r)) hsc)}
    {α : Type} {Q : α → sProp 𝕄} {k : PUnit → PR F α} :
    iprop(records C S K ∗ owe c (O + tallyAt (cell 1 r (nb r c)) () NC) ∗ ctxPts c (C r c) ∗ cFree r (nb r c)
        ∗ dutyTok ER (cell 0 r c) 0 0 ∗ dutyTok ER (cell 1 r (nb r c)) 0 0)
      ⊢ iprop(((owe c O ∗ cred (tallyAt (cell 0 r c) () NC)) -∗ W c (k ⟨⟩) Q)
          -∗ W c (.op (.enqueueDma ctxM (.remote (Dev.tc n : Thread nD τ) (cslot r) (.dma (dq 0 r)) hsc) (.dma (dq 1 r)) hsrc hdst hsem) k) Q) := by
  subst hn
  unfold owe cFree ctxPts
  iintro ⟨#HR, ⟨%A, HO⟩, Hx, ⟨%fd, Hd⟩, Ht1, Ht2⟩ Hk
  iapply (Rounds.wp_send_pointsTo 𝒱₀ ER (sched C S) (c : Thread nD τ) none (κ₁ := K (c, kx 0 r)) (κ₂ := K (nb r c, kx 1 r))
    (r₁ := 0) (r₂ := 0) (d₁ := 0) (d₂ := 0) (fd := fd)
    (by rw [duties_cell]; exact Finset.mem_singleton_self _) (by rw [duties_cell]; exact Finset.mem_singleton_self _)
    () () NC rfl (amount_cell C S 0 r c 0) (amount_cell C S 1 r (nb r c) 0) O rfl (W := A)
    (by rw [payload_cell]; unfold xPay ctxPts; exact BI.Entails.refl _)
    (by
      rw [payload_cell]; unfold xPay cHas; rw [nb_nb]
      iintro H; iexists ((cslot r).view.write (Elt F) fd (ctxM.view.read (Elt F) (C r c)) Finset.univ); isplitr
      · ipureintro; exact (View.read_write_univ _ _).trans (View.read_whole _ _)
      iexact H)) $$ [HO Hx Hd Ht1 Ht2]
  · isplitr; · iapply (inv_at C S K (c, kx 0 r)); iexact HR
    isplitr; · iapply (inv_at C S K (nb r c, kx 1 r)); iexact HR
    isplitl [Hx]; · iexact Hx
    isplitl [Hd]; · iexact Hd
    isplitl [HO]; · iexact HO
    isplitl [Ht1]; · iexact Ht1
    isplitr; · iapply (reached_at C S K (c, kx 0 r)); iexact HR
    isplitl [Ht2]; · iexact Ht2
    iapply (reached_at C S K (nb r c, kx 1 r)); iexact HR
  iintro ⟨Hcr, HO⟩
  iapply Hk
  isplitl [HO]; · iexists A; iexact HO
  iexact Hcr

/-- and of the statistics. -/
theorem wp_st (r : Fin 4) (c n : Dev nD) (hn : n = nb r c) (O : CellTallies nD τ sig Unit)
    {hsc : (sslot r : Memref sig (Dev.tc n : Thread nD τ).2.kind .vmem S2x8x256 .f32).view.ref.isScScratch = false}
    {hsrc : (stM : Memref sig .tc .vmem S2x8x256 .f32).view.WordExact} {hdst : (sslot r).view.WordExact}
    {hsem : DmaTarget.Typed .vmem (.dma (dq 3 r)) (.remote (Dev.tc n : Thread nD τ) (sslot r) (.dma (dq 2 r)) hsc)}
    {α : Type} {Q : α → sProp 𝕄} {k : PUnit → PR F α} :
    iprop(records C S K ∗ owe c (O + tallyAt (cell 3 r (nb r c)) () NS) ∗ stPts c (S r c) ∗ sFree r (nb r c)
        ∗ dutyTok ER (cell 2 r c) 0 0 ∗ dutyTok ER (cell 3 r (nb r c)) 0 0)
      ⊢ iprop(((owe c O ∗ cred (tallyAt (cell 2 r c) () NS)) -∗ W c (k ⟨⟩) Q)
          -∗ W c (.op (.enqueueDma stM (.remote (Dev.tc n : Thread nD τ) (sslot r) (.dma (dq 2 r)) hsc) (.dma (dq 3 r)) hsrc hdst hsem) k) Q) := by
  subst hn
  unfold owe sFree stPts
  iintro ⟨#HR, ⟨%A, HO⟩, Hx, ⟨%fd, Hd⟩, Ht1, Ht2⟩ Hk
  iapply (Rounds.wp_send_pointsTo 𝒱₀ ER (sched C S) (c : Thread nD τ) none (κ₁ := K (c, kx 2 r)) (κ₂ := K (nb r c, kx 3 r))
    (r₁ := 0) (r₂ := 0) (d₁ := 0) (d₂ := 0) (fd := fd)
    (by rw [duties_cell]; exact Finset.mem_singleton_self _) (by rw [duties_cell]; exact Finset.mem_singleton_self _)
    () () NS rfl (amount_cell C S 2 r c 0) (amount_cell C S 3 r (nb r c) 0) O rfl (W := A)
    (by rw [payload_cell]; unfold xPay stPts; exact BI.Entails.refl _)
    (by
      rw [payload_cell]; unfold xPay sHas; rw [nb_nb]
      iintro H; iexists ((sslot r).view.write (Elt F) fd (stM.view.read (Elt F) (S r c)) Finset.univ); isplitr
      · ipureintro; exact (View.read_write_univ _ _).trans (View.read_whole _ _)
      iexact H)) $$ [HO Hx Hd Ht1 Ht2]
  · isplitr; · iapply (inv_at C S K (c, kx 2 r)); iexact HR
    isplitr; · iapply (inv_at C S K (nb r c, kx 3 r)); iexact HR
    isplitl [Hx]; · iexact Hx
    isplitl [Hd]; · iexact Hd
    isplitl [HO]; · iexact HO
    isplitl [Ht1]; · iexact Ht1
    isplitr; · iapply (reached_at C S K (c, kx 2 r)); iexact HR
    isplitl [Ht2]; · iexact Ht2
    iapply (reached_at C S K (nb r c, kx 3 r)); iexact HR
  iintro ⟨Hcr, HO⟩
  iapply Hk
  isplitl [HO]; · iexists A; iexact HO
  iexact Hcr

/-- What a round's communication consumes besides the two buffers: the partner's slots, the duty tokens it pays with, its
    positions on its own four cells of the round and the credit of the two it receives on. -/
def rtoks (r : Fin 4) (c : Dev nD) : sProp 𝕄 :=
  iprop(dutyTok ER (cell 0 r c) 0 0 ∗ dutyTok ER (cell 2 r c) 0 0 ∗ dutyTok ER (cell 1 r (nb r c)) 0 0 ∗ dutyTok ER (cell 3 r (nb r c)) 0 0)
def rpos (r : Fin 4) (c : Dev nD) : sProp 𝕄 :=
  iprop(atPos ER (cell 0 r c) 0 ∅ 0 ∗ atPos ER (cell 1 r c) 0 ∅ 0 ∗ atPos ER (cell 2 r c) 0 ∅ 0 ∗ atPos ER (cell 3 r c) 0 ∅ 0)
def rcred (r : Fin 4) (c : Dev nD) : sProp 𝕄 :=
  iprop(cred (tallyAt (cell 1 r c) () NC) ∗ cred (tallyAt (cell 3 r c) () NS))
def rneed (r : Fin 4) (c : Dev nD) : sProp 𝕄 := iprop(rtoks r c ∗ rpos r c ∗ rcred r c ∗ barPay r c)
/-- The round's four cells back at zero. -/
def rzero (r : Fin 4) (c : Dev nD) : sProp 𝕄 :=
  iprop(semVal (cell 0 r c) 0 ∗ semVal (cell 1 r c) 0 ∗ semVal (cell 2 r c) 0 ∗ semVal (cell 3 r c) 0)
/-- What was received, in its slots. -/
def rgot (r : Fin 4) (c : Dev nD) : sProp 𝕄 := iprop(cHas r c (C r (nb r c)) ∗ sHas r c (S r (nb r c)))

set_option maxHeartbeats 400000 in
theorem wp_comm (r : Fin 4) (c n n' : Dev nD) (hn : n = nb r c) (hn' : n' = nb r c) (O : CellTallies nD τ sig Unit) (hO : Above (r.val + 2) O)
    {α : Type} {Q : α → sProp 𝕄} {k : PUnit → PR F α} :
    iprop(records C S K ∗ levAts L lv ∗ owe c (due r c O) ∗ rneed r c ∗ ctxPts c (C r c) ∗ stPts c (S r c))
      ⊢ iprop(((owe c O ∗ rzero r c ∗ rgot C S r c ∗ ctxPts c (C r c) ∗ stPts c (S r c)) -∗ W c (k ⟨⟩) Q)
          -∗ W c (comm r n n' >>= k) Q) := by
  unfold comm
  simp only [Prog.lift, Prog.bind_op, Prog.bind_ret]
  unfold rneed rtoks rpos rcred barPay due
  iintro ⟨#HR, #Hlev, HO, ⟨⟨Ht0, Ht2, Ht1, Ht3⟩, ⟨Ha0, Ha1, Ha2, Ha3⟩, ⟨Hc1, Hc3⟩, ⟨Hfc, Hfs⟩⟩, HC, HS⟩ Hk
  iapply (wp_ctx C S K r c n hn) $$ [HO HC Hfc Ht0 Ht1]
  · isplitr; · iexact HR
    isplitl [HO]; · iexact HO
    isplitl [HC]; · iexact HC
    isplitl [Hfc]; · iexact Hfc
    isplitl [Ht0] <;> iassumption
  iintro ⟨HO, Hc0⟩
  iapply (wp_st C S K r c n' hn') $$ [HO HS Hfs Ht2 Ht3]
  · isplitr; · iexact HR
    isplitl [HO]; · iexact HO
    isplitl [HS]; · iexact HS
    isplitl [Hfs]; · iexact Hfs
    isplitl [Ht2] <;> iassumption
  iintro ⟨HO, Hc2⟩
  iapply (wp_xwait C S K 0 r c O (r.val + 2) (by rw [(lv_send r c).1]; exact Nat.zero_le _) hO crd0) $$ [HO Hc0 Ha0]
  · isplitr; · iexact HR
    isplitr; · iexact Hlev
    isplitl [HO]; · iexact HO
    isplitl [Hc0]; · iexact Hc0
    iexact Ha0
  iintro ⟨HO, Hz0, HC⟩
  iapply (wp_xwait C S K 1 r c O (r.val + 2) (by rw [(lv_recv r c).1]) hO (crd1 r)) $$ [HO Hc1 Ha1]
  · isplitr; · iexact HR
    isplitr; · iexact Hlev
    isplitl [HO]; · iexact HO
    isplitl [Hc1]; · iexact Hc1
    iexact Ha1
  iintro ⟨HO, Hz1, HCr⟩
  iapply (wp_xwait C S K 2 r c O (r.val + 2) (by rw [(lv_send r c).2]; exact Nat.zero_le _) hO crd2) $$ [HO Hc2 Ha2]
  · isplitr; · iexact HR
    isplitr; · iexact Hlev
    isplitl [HO]; · iexact HO
    isplitl [Hc2]; · iexact Hc2
    iexact Ha2
  iintro ⟨HO, Hz2, HS⟩
  iapply (wp_xwait C S K 3 r c O (r.val + 2) (by rw [(lv_recv r c).2]) hO (crd3 r)) $$ [HO Hc3 Ha3]
  · isplitr; · iexact HR
    isplitr; · iexact Hlev
    isplitl [HO]; · iexact HO
    isplitl [Hc3]; · iexact Hc3
    iexact Ha3
  iintro ⟨HO, Hz3, HSr⟩
  iapply Hk
  unfold rzero rgot xPay
  isplitl [HO]; · iexact HO
  isplitl [Hz0 Hz1 Hz2 Hz3]
  · isplitl [Hz0]; · iexact Hz0
    isplitl [Hz1]; · iexact Hz1
    isplitl [Hz2] <;> iassumption
  isplitl [HCr HSr]
  · isplitl [HCr] <;> iassumption
  isplitl [HC] <;> iassumption

end Cert.Exchange

end
-- ==== Proof.Round.lean ====
/-
A round of the exchange: the loads read the device's own partials and the received ones, the merge of the two is written
back. The merge as vector operations on the two contexts and the two statistics.
-/
module

public import proofs.«01_k».proof.Proof.Step
public import Idealize.ShloMosaic.Lib.PointwiseCore

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The merge -/

/-- Row `k` of the statistics (`0` the maxima, `1` the sums), and the statistics of two rows. -/
def rowS (k : Fin 2) (X : StV F) : FVec F S8x256 .f32 := fun j => X (ix3 k (j 0) (j 1))
def pairS (m l : FVec F S8x256 .f32) : StV F := fun i => if (i 0).val = 0 then m (ix2 (i 1) (i 2)) else l (ix2 (i 1) (i 2))

theorem rowS_pairS_zero (m l : FVec F S8x256 .f32) : rowS 0 (pairS m l) = m := by
  funext j; unfold rowS pairS; idx_vars j; rfl
theorem rowS_pairS_one (m l : FVec F S8x256 .f32) : rowS 1 (pairS m l) = l := by
  funext j; unfold rowS pairS; idx_vars j; rfl

section Merge
variable (cx cy : CtxV F) (X Y : StV F)
def mrgM : FVec F S8x256 .f32 := maximumf (rowS 0 X) (rowS 0 Y)
def mrgA : FVec F S8x256 .f32 := exp (subf (rowS 0 X) (mrgM X Y))
def mrgB : FVec F S8x256 .f32 := exp (subf (rowS 0 Y) (mrgM X Y))
def mrgL : FVec F S8x256 .f32 := addf (mulf (rowS 1 X) (mrgA X Y)) (mulf (rowS 1 Y) (mrgB X Y))
def overD (a : FVec F S8x256 .f32) : FVec F S8x256x128 .f32 :=
  broadcastTo S8x256x128 (shapeCast S8x256x1 a shapeCasts_S8x256_S8x256x1) broadcasts_S8x256x1_S8x256x128
def mrgX : FVec F S8x256x128 .f32 :=
  addf (mulf (extf .f32 cx bitsLt_bf16_f32) (overD (mrgA X Y))) (mulf (extf .f32 cy bitsLt_bf16_f32) (overD (mrgB X Y)))
def mrgC : CtxV F := k0_pay224 (mrgX cx cy X Y)
def mrgS : StV F := pairS (mrgM X Y) (mrgL X Y)
/-- The last round's result: the merged context over the merged sum, the heads side by side, times the output weights. -/
def lastOut (w : Vec F S1024x1024 .f32) : FVec F S1x256x1024 .f32 :=
  shapeCast S1x256x1024 (matmul dot_S256x1024_S1024x1024_S256x1024_1_0_0_1_n_n none
    (truncf .bf16 (shapeCast S256x1024 (transpose S256x8x128 [1, 0, 2] (divf (mrgX cx cy X Y) (overD (mrgL X Y))) transposes_S8x256x128_p1_0_2_S256x8x128) shapeCasts_S256x8x128_S256x1024) bitsLt_bf16_f32)
    (truncf .bf16 (shapeCast S1024x1024 w shapeCasts_S1024x1024_S1024x1024) bitsLt_bf16_f32) (constant S256x1024 .f32 0x00000000#32)) shapeCasts_S256x1024_S1x256x1024
end Merge

/-! ## What the loads read and the stores write -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

theorem rd_c (f : CtxV F) : ctxM.view.readAt (Elt F) r3c.toLoadRect f = f := Memref.readAt_unit_zero (Elt F) cc0_scratch0 hz3 _ f
theorem wr_c (f w : CtxV F) : (ctxM.access r3c : View sig .tc _ _ _).write (Elt F) f w Finset.univ = w := Memref.write_access_unit_zero_univ (Elt F) cc0_scratch0 hz3 _ f w

theorem sc_st {α : Type} (g : S1x8x256.Idx → α) (j0 : Fin 8) (j1 : Fin 256) :
    shapeCast S8x256 g shapeCasts_S1x8x256_S8x256 (ix2 j0 j1) = g (ix3 0 j0 j1) := by pointwise
theorem sc_sr {α : Type} (g : S1x1x8x256.Idx → α) (j0 : Fin 8) (j1 : Fin 256) :
    shapeCast S8x256 g shapeCasts_S1x1x8x256_S8x256 (ix2 j0 j1) = g (ix4 0 0 j0 j1) := by pointwise
theorem sc_slot {α : Type} (g : S1x2x8x256.Idx → α) (k : Fin 2) (j0 : Fin 8) (j1 : Fin 256) :
    shapeCast S2x8x256 g squeezes_S1x2x8x256_S2x8x256.numel_eq (ix3 k j0 j1) = g (ix4 0 k j0 j1) := by pointwise

theorem rd_s (k : Fin 2) (f : StV F) : shapeCast S8x256 (stM.view.readAt (Elt F) (rSt k).toLoadRect f) shapeCasts_S1x8x256_S8x256 = rowS k f := by
  funext j; idx_vars j
  refine (sc_st _ j0 j1).trans ?_
  refine congrArg f (funext fun a => Fin.ext ?_)
  match a with
  | ⟨0, _⟩ => show k.val + 1 * 0 = k.val; omega
  | ⟨1, _⟩ => show 0 + 1 * j0.val = j0.val; omega
  | ⟨2, _⟩ => show 0 + 1 * j1.val = j1.val; omega

theorem rd_cr (r : Fin 4) (f : S4x8x256x128.Idx → Elt F .bf16) :
    shapeCast S8x256x128 (crM.view.readAt (Elt F) (crect r).toLoadRect f) shapeCasts_S1x8x256x128_S8x256x128 = (cslot r).view.read (Elt F) f := rfl

theorem rd_sr (r : Fin 4) (k : Fin 2) (f : S4x2x8x256.Idx → Elt F .f32) :
    shapeCast S8x256 (srM.view.readAt (Elt F) (rSr r k).toLoadRect f) shapeCasts_S1x1x8x256_S8x256 = rowS k ((sslot r).view.read (Elt F) f) := by
  have e : (sslot r).view.read (Elt F) f = shapeCast S2x8x256 (srM.view.readAt (Elt F) (srect r).toLoadRect f) squeezes_S1x2x8x256_S2x8x256.numel_eq := rfl
  rw [e]
  funext j; idx_vars j; unfold rowS
  refine (sc_sr _ j0 j1).trans (Eq.trans ?_ (sc_slot _ k j0 j1).symm)
  refine congrArg f (funext fun a => Fin.ext ?_)
  match a with
  | ⟨0, _⟩ => rfl
  | ⟨1, _⟩ => show k.val + 1 * 0 = 0 + 1 * k.val; omega
  | ⟨2, _⟩ => rfl
  | ⟨3, _⟩ => rfl

theorem wr_s (f : StV F) (m l : FVec F S8x256 .f32) :
    (stM.access (rSt 1) : View sig .tc _ _ _).write (Elt F)
      ((stM.access (rSt 0) : View sig .tc _ _ _).write (Elt F) f (shapeCast S1x8x256 m shapeCasts_S8x256_S1x8x256) Finset.univ)
      (shapeCast S1x8x256 l shapeCasts_S8x256_S1x8x256) Finset.univ = pairS m l := by
  refine (View.write_whole_slice_unit cc0_scratch2 (![1, 0, 0] : Fin 3 → ℕ) S1x8x256.size (inSt 1) _ _).trans ?_
  rw [show (stM.access (rSt 0) : View sig .tc _ _ _).write (Elt F) f (shapeCast S1x8x256 m shapeCasts_S8x256_S1x8x256) Finset.univ = _ from
    View.write_whole_slice_unit cc0_scratch2 (![0, 0, 0] : Fin 3 → ℕ) S1x8x256.size (inSt 0) _ _]
  funext i; idx_vars i
  have e0 : ∀ v : FVec F S8x256 .f32, shapeCast S1x8x256 v shapeCasts_S8x256_S1x8x256 (ix3 0 i1 i2) = v (ix2 i1 i2) := fun v => by pointwise
  unfold updateSlice pairS
  by_cases h : i0.val = 0
  · refine (dif_neg fun hh => ?_).trans ((dif_pos ?_).trans (Eq.trans ?_ (if_pos h).symm))
    · have : 1 ≤ i0.val := (hh 0).1
      omega
    · intro a
      match a with
      | ⟨0, _⟩ => exact ⟨Nat.zero_le _, by show i0.val < 0 + 1; omega⟩
      | ⟨1, _⟩ => exact ⟨Nat.zero_le _, by show i1.val < 0 + 8; omega⟩
      | ⟨2, _⟩ => exact ⟨Nat.zero_le _, by show i2.val < 0 + 256; omega⟩
    · refine Eq.trans (congrArg _ (funext fun a => Fin.ext ?_)) (e0 m)
      match a with
      | ⟨0, _⟩ => show i0.val - 0 = 0; omega
      | ⟨1, _⟩ => rfl
      | ⟨2, _⟩ => rfl
  · refine (dif_pos ?_).trans (Eq.trans ?_ (if_neg h).symm)
    · intro a
      match a with
      | ⟨0, _⟩ => exact ⟨by show 1 ≤ i0.val; omega, by show i0.val < 1 + 1; omega⟩
      | ⟨1, _⟩ => exact ⟨Nat.zero_le _, by show i1.val < 0 + 8; omega⟩
      | ⟨2, _⟩ => exact ⟨Nat.zero_le _, by show i2.val < 0 + 256; omega⟩
    · refine Eq.trans (congrArg _ (funext fun a => Fin.ext ?_)) (e0 l)
      match a with
      | ⟨0, _⟩ => show i0.val - 1 = 0; omega
      | ⟨1, _⟩ => rfl
      | ⟨2, _⟩ => rfl

end Cert.Exchange

end
-- ==== Proof.Body.lean ====
/-
The rounds run: stores of the partials, an exchange round with its merge, and the last round with the output.
-/
module

public import proofs.«01_k».proof.Proof.Round
public import proofs.«01_k».proof.Proof.Gen.KernelIdeal.Frame

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (C : Fin 4 → Dev nD → CtxV F) (S : Fin 4 → Dev nD → StV F) (K : Dev nD × Fin 17 → ℕ)

/-! ## Loads and stores -/

theorem sub_c : ∀ s : Finset (S8x256x128.Idx), s ⊆ (ctxM : Memref sig .tc .vmem S8x256x128 .bf16).view.set := fun s => by
  rw [View.set_whole]; exact Finset.subset_univ _
theorem sub_s : ∀ s : Finset (S2x8x256.Idx), s ⊆ (stM : Memref sig .tc .vmem S2x8x256 .f32).view.set := fun s => by
  rw [View.set_whole]; exact Finset.subset_univ _

theorem setOn_wholeView (b : Ref sig .tc) (s : Finset b.ty.shape.Idx) : (View.whole b).setOn s = s := by
  ext i; rw [View.setOn, Finset.mem_map]
  exact ⟨fun ⟨_, h, e⟩ => e ▸ h, fun h => ⟨i, h, rfl⟩⟩

theorem cslot_set (r : Fin 4) : (cslot r).view.set = (crect r).set := (View.set_reshape _ _).trans (View.set_slice_whole _ _)
theorem sslot_set (r : Fin 4) : (sslot r).view.set = (srect r).set := (View.set_reshape _ _).trans (View.set_slice_whole _ _)

theorem sub_cr (r : Fin 4) : (crM : Memref sig .tc .vmem S4x8x256x128 .bf16).view.setOn (crect r).toLoadRect.set ⊆ (cslot r).view.set := by
  rw [cslot_set]; exact (setOn_wholeView cc0_scratch1 _).subset
theorem sub_sr (r : Fin 4) (k : Fin 2) : (srM : Memref sig .tc .vmem S4x2x8x256 .f32).view.setOn (rSr r k).toLoadRect.set ⊆ (sslot r).view.set := by
  rw [sslot_set]
  refine (setOn_wholeView cc0_scratch3 _).subset.trans fun i hi => ?_
  have h := Rect.mem_set_unit.mp hi
  refine Rect.mem_set_unit.mpr fun a => ?_
  have ha := h a
  have hk := k.isLt
  match a with
  | ⟨0, _⟩ => exact ha
  | ⟨1, _⟩ =>
    have h1 : k.val ≤ (i (1 : Fin 4)).val ∧ (i (1 : Fin 4)).val < k.val + 1 := ha
    exact ⟨Nat.zero_le _, by show (i (1 : Fin 4)).val < 0 + 2; omega⟩
  | ⟨2, _⟩ => exact ha
  | ⟨3, _⟩ => exact ha

theorem wp_ldC {α : Type} {Q : α → sProp 𝕄} (c : Dev nD) (f : CtxV F) {k : Vec F S8x256x128 .bf16 → PR F α} :
    ctxPts c f ⊢ iprop((ctxPts c f -∗ W c (k f) Q) -∗ W c (ldC >>= k) Q) := by
  unfold ctxPts ldC
  simp only [Prog.lift, Prog.bind_op, Prog.bind_ret]
  iintro H Hk
  iapply (wp_load 𝒱₀ (c : Thread nD τ) none Set.univ (m := ctxM) (r := r3c.toLoadRect) (sub_c _)) $$ H; iintro H
  rw [rd_c]
  iapply Hk; iexact H

theorem wp_ldS {α : Type} {Q : α → sProp 𝕄} (c : Dev nD) (i : Fin 2) (f : StV F) {k : Vec F S1x8x256 .f32 → PR F α} :
    stPts c f ⊢ iprop((stPts c f -∗ W c (k (stM.view.readAt (Elt F) (rSt i).toLoadRect f)) Q) -∗ W c (ldS i >>= k) Q) := by
  unfold stPts ldS
  simp only [Prog.lift, Prog.bind_op, Prog.bind_ret]
  iintro H Hk
  iapply (wp_load 𝒱₀ (c : Thread nD τ) none Set.univ (m := stM) (r := (rSt i).toLoadRect) (sub_s _)) $$ H; iintro H
  iapply Hk; iexact H

theorem wp_ldCr {α : Type} {Q : α → sProp 𝕄} (c : Dev nD) (r : Fin 4) (f : Buf (Elt F) ((cslot r).view.loc (c : Thread nD τ))) {k : Vec F S1x8x256x128 .bf16 → PR F α} :
    ((cslot r).view.loc (c : Thread nD τ) ↦[(cslot r).view.set]{fullShare} f)
      ⊢ iprop((((cslot r).view.loc (c : Thread nD τ) ↦[(cslot r).view.set]{fullShare} f) -∗ W c (k (crM.view.readAt (Elt F) (crect r).toLoadRect f)) Q) -∗ W c (ldCr r >>= k) Q) := by
  unfold ldCr
  simp only [Prog.lift, Prog.bind_op, Prog.bind_ret]
  exact wp_load 𝒱₀ (c : Thread nD τ) none Set.univ (m := crM) (r := (crect r).toLoadRect) (sub_cr r)

theorem wp_ldSr {α : Type} {Q : α → sProp 𝕄} (c : Dev nD) (r : Fin 4) (i : Fin 2) (f : Buf (Elt F) ((sslot r).view.loc (c : Thread nD τ))) {k : Vec F S1x1x8x256 .f32 → PR F α} :
    ((sslot r).view.loc (c : Thread nD τ) ↦[(sslot r).view.set]{fullShare} f)
      ⊢ iprop((((sslot r).view.loc (c : Thread nD τ) ↦[(sslot r).view.set]{fullShare} f) -∗ W c (k (srM.view.readAt (Elt F) (rSr r i).toLoadRect f)) Q) -∗ W c (ldSr r i >>= k) Q) := by
  unfold ldSr
  simp only [Prog.lift, Prog.bind_op, Prog.bind_ret]
  exact wp_load 𝒱₀ (c : Thread nD τ) none Set.univ (m := srM) (r := (rSr r i).toLoadRect) (sub_sr r i)

/-- The partials stored. -/
theorem wp_put {α : Type} {Q : α → sProp 𝕄} (c : Dev nD) (f : CtxV F) (g : StV F) (v : CtxV F) (m l : FVec F S8x256 .f32) {k : PUnit → PR F α} :
    iprop(ctxPts c f ∗ stPts c g)
      ⊢ iprop(((ctxPts c v ∗ stPts c (pairS m l)) -∗ W c (k ⟨⟩) Q)
          -∗ W c (put v (shapeCast S1x8x256 m shapeCasts_S8x256_S1x8x256) (shapeCast S1x8x256 l shapeCasts_S8x256_S1x8x256) >>= k) Q) := by
  unfold put ldC ldS stC stS ctxPts stPts
  simp only [Prog.lift, Prog.bind_op, Prog.bind_ret]
  iintro ⟨HC, HS⟩ Hk
  iapply (wp_load 𝒱₀ (c : Thread nD τ) none Set.univ (m := ctxM) (sub_c _)) $$ HC; iintro HC
  iapply (wp_store 𝒱₀ (c : Thread nD τ) none Set.univ (m := ctxM) (r := r3c) (Mk := Finset.univ) (sub_c _)) $$ HC; iintro HC
  iapply (wp_load 𝒱₀ (c : Thread nD τ) none Set.univ (m := stM) (sub_s _)) $$ HS; iintro HS
  iapply (wp_store 𝒱₀ (c : Thread nD τ) none Set.univ (m := stM) (r := rSt 0) (Mk := Finset.univ) (sub_s _)) $$ HS; iintro HS
  iapply (wp_load 𝒱₀ (c : Thread nD τ) none Set.univ (m := stM) (sub_s _)) $$ HS; iintro HS
  iapply (wp_store 𝒱₀ (c : Thread nD τ) none Set.univ (m := stM) (r := rSt 1) (Mk := Finset.univ) (sub_s _)) $$ HS; iintro HS
  rw [wr_c, wr_s]
  iapply Hk
  isplitl [HC] <;> iassumption

/-- The payloads a round stores are the merge of what it read. -/
theorem pay_ctx (r : Fin 4) (cx : CtxV F) (X : StV F) (f : S4x8x256x128.Idx → Elt F .bf16) (g : S4x2x8x256.Idx → Elt F .f32) :
    k0_pay224 (k0_pay223 (stM.view.readAt (Elt F) (rSt 0).toLoadRect X) cx (srM.view.readAt (Elt F) (rSr r 0).toLoadRect g) (crM.view.readAt (Elt F) (crect r).toLoadRect f))
      = mrgC cx ((cslot r).view.read (Elt F) f) X ((sslot r).view.read (Elt F) g) := by
  unfold mrgC mrgX mrgA mrgB mrgM overD
  rw [← rd_s 0 X, ← rd_sr r 0 g, ← rd_cr r f]
  rfl
theorem pay_m (r : Fin 4) (X : StV F) (g : S4x2x8x256.Idx → Elt F .f32) :
    k0_pay225 (k0_pay220 (stM.view.readAt (Elt F) (rSt 0).toLoadRect X) (srM.view.readAt (Elt F) (rSr r 0).toLoadRect g))
      = shapeCast S1x8x256 (mrgM X ((sslot r).view.read (Elt F) g)) shapeCasts_S8x256_S1x8x256 := by
  unfold mrgM
  rw [← rd_s 0 X, ← rd_sr r 0 g]
  rfl
theorem pay_l (r : Fin 4) (X : StV F) (g : S4x2x8x256.Idx → Elt F .f32) :
    k0_pay226 (k0_pay217 (stM.view.readAt (Elt F) (rSt 1).toLoadRect X)) (k0_pay219 (srM.view.readAt (Elt F) (rSr r 1).toLoadRect g))
          (k0_pay221 (stM.view.readAt (Elt F) (rSt 0).toLoadRect X) (srM.view.readAt (Elt F) (rSr r 0).toLoadRect g))
          (k0_pay222 (stM.view.readAt (Elt F) (rSt 0).toLoadRect X) (srM.view.readAt (Elt F) (rSr r 0).toLoadRect g))
      = shapeCast S1x8x256 (mrgL X ((sslot r).view.read (Elt F) g)) shapeCasts_S8x256_S1x8x256 := by
  unfold mrgL mrgA mrgB mrgM
  rw [← rd_s 0 X, ← rd_s 1 X, ← rd_sr r 0 g, ← rd_sr r 1 g]
  rfl

theorem pay_last (cx : CtxV F) (X : StV F) (f : S4x8x256x128.Idx → Elt F .bf16) (g : S4x2x8x256.Idx → Elt F .f32) (w : Vec F S1024x1024 .f32) :
    k0_pay1 (k0_pay247 (stM.view.readAt (Elt F) (rSt 1).toLoadRect X)) (k0_pay249 (srM.view.readAt (Elt F) (rSr 3 1).toLoadRect g)) (k0_pay250 (crM.view.readAt (Elt F) (crect 3).toLoadRect f))
        (k0_pay252 (stM.view.readAt (Elt F) (rSt 0).toLoadRect X) (srM.view.readAt (Elt F) (rSr 3 0).toLoadRect g)) (k0_pay253 (stM.view.readAt (Elt F) (rSt 0).toLoadRect X) (srM.view.readAt (Elt F) (rSr 3 0).toLoadRect g))
        (k0_pay254 (stM.view.readAt (Elt F) (rSt 0).toLoadRect X) cx (srM.view.readAt (Elt F) (rSr 3 0).toLoadRect g)) (k0_pay255 (stM.view.readAt (Elt F) (rSt 0).toLoadRect X) (srM.view.readAt (Elt F) (rSr 3 0).toLoadRect g)) w
      = lastOut cx ((cslot 3).view.read (Elt F) f) X ((sslot 3).view.read (Elt F) g) w := by
  unfold lastOut mrgX mrgL mrgA mrgB mrgM overD
  rw [← rd_s 0 X, ← rd_s 1 X, ← rd_sr 3 0 g, ← rd_sr 3 1 g, ← rd_cr 3 f]
  rfl

/-- An exchange round: the merged partials take the place of the device's own. -/
theorem wp_round (r r' : Fin 4) (c n n' : Dev nD) (hn : n = nb r c) (hn' : n' = nb r c) (O : CellTallies nD τ sig Unit) (hO : Above (r.val + 2) O)
    (hC : C r' c = mrgC (C r c) (C r (nb r c)) (S r c) (S r (nb r c))) (hS : S r' c = mrgS (S r c) (S r (nb r c)))
    {α : Type} {Q : α → sProp 𝕄} {k : PUnit → PR F α} :
    iprop(records C S K ∗ levAts L lv ∗ owe c (due r c O) ∗ rneed r c ∗ ctxPts c (C r c) ∗ stPts c (S r c))
      ⊢ iprop(((owe c O ∗ rzero r c ∗ (cFree r c ∗ sFree r c) ∗ ctxPts c (C r' c) ∗ stPts c (S r' c)) -∗ W c (k ⟨⟩) Q)
          -∗ W c (round r n n' >>= k) Q) := by
  unfold round
  simp only [Prog.bind_assoc]
  iintro ⟨#HR, #Hlev, HO, Hn, HC, HS⟩ Hk
  iapply (wp_comm C S K r c n n' hn hn' O hO) $$ [HO Hn HC HS]
  · isplitr; · iexact HR
    isplitr; · iexact Hlev
    isplitl [HO]; · iexact HO
    isplitl [Hn]; · iexact Hn
    isplitl [HC] <;> iassumption
  unfold rgot cHas sHas
  iintro ⟨HO, Hz, ⟨⟨%f, %hf, Hf⟩, ⟨%g, %hg, Hg⟩⟩, HC, HS⟩
  iapply (wp_ldS c 0 _) $$ HS; iintro HS
  iapply (wp_ldS c 1 _) $$ HS; iintro HS
  iapply (wp_ldC c _) $$ HC; iintro HC
  iapply (wp_ldSr c r 0 g) $$ Hg; iintro Hg
  iapply (wp_ldSr c r 1 g) $$ Hg; iintro Hg
  iapply (wp_ldCr c r f) $$ Hf; iintro Hf
  rw [pay_ctx r (C r c) (S r c) f g, pay_m r (S r c) g, pay_l r (S r c) g, hf, hg]
  iapply (wp_put c (C r c) (S r c) _ _ _) $$ [HC HS]
  · isplitl [HC] <;> iassumption
  iintro ⟨HC, HS⟩
  iapply Hk
  rw [hC, hS]; unfold mrgS cFree sFree
  isplitl [HO]; · iexact HO
  isplitl [Hz]; · iexact Hz
  isplitl [Hf Hg]
  · isplitl [Hf]
    · iexists f; iexact Hf
    iexists g; iexact Hg
  isplitl [HC] <;> iassumption

/-! ## The contents round by round -/

/-- What devices hold before round `n`: the merge along the first `n` cube directions, from `(C0, S0)`. -/
def stAt (C0 : Dev nD → CtxV F) (S0 : Dev nD → StV F) : ℕ → Dev nD → CtxV F × StV F
  | 0 => fun c => (C0 c, S0 c)
  | n + 1 => fun c =>
    (mrgC (stAt C0 S0 n c).1 (stAt C0 S0 n (nb (Fin.ofNat 4 n) c)).1 (stAt C0 S0 n c).2 (stAt C0 S0 n (nb (Fin.ofNat 4 n) c)).2,
     mrgS (stAt C0 S0 n c).2 (stAt C0 S0 n (nb (Fin.ofNat 4 n) c)).2)

section Run
variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The operands in their staging buffers. -/
def xIn (c : Dev nD) : Vec F S1x256x1024 .f32 := iblk m c 0 t₀
def wqIn (c : Dev nD) : Vec F S1024x1024 .f32 := iblk m c 1 t₀
def kIn (c : Dev nD) : Vec F S1x4096x8x128 .f32 := iblk m c 2 t₀
def vIn (c : Dev nD) : Vec F S1x4096x8x128 .f32 := iblk m c 3 t₀
def woIn (c : Dev nD) : Vec F S1024x1024 .f32 := iblk m c 4 t₀

/-- The device's own partials. -/
def ctx0 (c : Dev nD) : CtxV F :=
  shapeCast S8x256x128 (truncf .bf16 (locC (xIn m c) (wqIn m c) (kIn m c) (vIn m c)) bitsLt_bf16_f32) shapeCasts_S8x256x128_S8x256x128
def st0 (c : Dev nD) : StV F := pairS (locM (xIn m c) (wqIn m c) (kIn m c)) (locL (xIn m c) (wqIn m c) (kIn m c))
def Cs (r : Fin 4) (c : Dev nD) : CtxV F := (stAt (ctx0 m) (st0 m) r.val c).1
def Ss (r : Fin 4) (c : Dev nD) : StV F := (stAt (ctx0 m) (st0 m) r.val c).2
/-- The device's result. -/
def outAt (c : Dev nD) : FVec F S1x256x1024 .f32 := lastOut (Cs m 3 c) (Cs m 3 (nb 3 c)) (Ss m 3 c) (Ss m 3 (nb 3 c)) (woIn m c)

/-- The ghost state a device's body starts from. -/
def start (c : Dev nD) : sProp 𝕄 :=
  iprop((∃ K : Dev nD × Fin 17 → ℕ, records (Cs m) (Ss m) K) ∗ levAts L lv ∗ cred (tallyAt (barCell c) () 4) ∗ atPos ER (barCell c) 0 ∅ 0
    ∗ bigSep Finset.univ fun r : Fin 4 => iprop(dutyTok ER (barCell (nb r c)) 0 r ∗ rtoks r c ∗ rpos r c ∗ rcred r c))
/-- The receive slots, at any contents. -/
def slots (c : Dev nD) : sProp 𝕄 := bigSep Finset.univ fun r : Fin 4 => iprop(cFree (F := F) r c ∗ sFree r c)
def bufs (c : Dev nD) : sProp 𝕄 := iprop((∃ f, ctxPts (F := F) c f) ∗ (∃ g, stPts (F := F) c g) ∗ slots (F := F) c)
def Φ₀ (c : Dev nD) : sProp 𝕄 := iprop(start m c ∗ bufs (F := F) c)
def Φ₁ (c : Dev nD) : sProp 𝕄 := iprop(bufs (F := F) c ∗ semVal (barCell c) 0 ∗ bigSep Finset.univ fun r : Fin 4 => rzero (F := F) r c)

theorem big4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

abbrev at_ (c : Dev nD) (b : Ref sig .tc) (X : Buf (Elt F) (((c : Dev nD) : Thread nD τ).loc b)) : sProp 𝕄 := ((c : Thread nD τ).loc b) ↦{fullShare} X

theorem rd_x (f : Vec F S1x256x1024 .f32) : (Memref.whole cc0_stg0_0 : Memref sig .tc .vmem S1x256x1024 .f32).view.readAt (Elt F) r3x.toLoadRect f = f := Memref.readAt_unit_zero (Elt F) cc0_stg0_0 hz3 _ f
theorem rd_wq (f : Vec F S1024x1024 .f32) : (Memref.whole cc0_stg1_0 : Memref sig .tc .vmem S1024x1024 .f32).view.readAt (Elt F) r2w.toLoadRect f = f := Memref.readAt_unit_zero (Elt F) cc0_stg1_0 hz2 _ f
theorem rd_k (f : Vec F S1x4096x8x128 .f32) : (Memref.whole cc0_stg2_0 : Memref sig .tc .vmem S1x4096x8x128 .f32).view.readAt (Elt F) r4k.toLoadRect f = f := Memref.readAt_unit_zero (Elt F) cc0_stg2_0 hz4 _ f
theorem rd_v (f : Vec F S1x4096x8x128 .f32) : (Memref.whole cc0_stg3_0 : Memref sig .tc .vmem S1x4096x8x128 .f32).view.readAt (Elt F) r4k.toLoadRect f = f := Memref.readAt_unit_zero (Elt F) cc0_stg3_0 hz4 _ f
theorem rd_wo (f : Vec F S1024x1024 .f32) : (Memref.whole cc0_stg4_0 : Memref sig .tc .vmem S1024x1024 .f32).view.readAt (Elt F) r2w.toLoadRect f = f := Memref.readAt_unit_zero (Elt F) cc0_stg4_0 hz2 _ f
theorem wr_o (f w : Vec F S1x256x1024 .f32) : ((Memref.whole cc0_stg5_0 : Memref sig .tc .vmem S1x256x1024 .f32).access r3x : View sig .tc _ _ _).write (Elt F) f w Finset.univ = w := Memref.write_access_unit_zero_univ (Elt F) cc0_stg5_0 hz3 _ f w

/-- The handshake: after it the device holds its partners' receive slots. -/
theorem wp_hand (c : Dev nD) {α : Type} {Q : α → sProp 𝕄} {k : PUnit → PR F α} :
    iprop(records C S K ∗ levAts L lv ∗ owe c (O₀ c) ∗ cred (tallyAt (barCell c) () 4) ∗ atPos ER (barCell c) 0 ∅ 0
        ∗ (dutyTok ER (barCell (nb 0 c)) 0 (0 : Fin 4) ∗ dutyTok ER (barCell (nb 1 c)) 0 (1 : Fin 4) ∗ dutyTok ER (barCell (nb 2 c)) 0 (2 : Fin 4) ∗ dutyTok ER (barCell (nb 3 c)) 0 (3 : Fin 4))
        ∗ slots (F := F) c)
      ⊢ iprop(((owe c (X0 c) ∗ semVal (barCell c) 0 ∗ (barPay (F := F) 0 c ∗ barPay (F := F) 1 c ∗ barPay (F := F) 2 c ∗ barPay (F := F) 3 c)) -∗ W c (k ⟨⟩) Q)
          -∗ W c (hand c >>= k) Q) := by
  unfold hand slots
  rw [big4]
  simp only [semSignalWord, semWaitWord, Prog.lift, Prog.bind_op, Prog.bind_ret, sig1, sig2, sig3, sig4]
  unfold O₀
  iintro ⟨#HR, #Hlev, HO, Hc, Ha, ⟨Ht0, Ht1, Ht2, Ht3⟩, ⟨Hc0, Hs0⟩, ⟨Hc1, Hs1⟩, ⟨Hc2, Hs2⟩, ⟨Hc3, Hs3⟩⟩ Hk
  iapply (wp_sig C S K 0 c (X0 c + barDue 3 c + barDue 2 c + barDue 1 c)) $$ [HO Ht0 Hc0 Hs0]
  · isplitr; · iexact HR
    isplitl [HO]; · iexact HO
    isplitl [Ht0]; · iexact Ht0
    isplitl [Hc0] <;> iassumption
  iintro HO
  iapply (wp_sig C S K 1 c (X0 c + barDue 3 c + barDue 2 c)) $$ [HO Ht1 Hc1 Hs1]
  · isplitr; · iexact HR
    isplitl [HO]; · iexact HO
    isplitl [Ht1]; · iexact Ht1
    isplitl [Hc1] <;> iassumption
  iintro HO
  iapply (wp_sig C S K 2 c (X0 c + barDue 3 c)) $$ [HO Ht2 Hc2 Hs2]
  · isplitr; · iexact HR
    isplitl [HO]; · iexact HO
    isplitl [Ht2]; · iexact Ht2
    isplitl [Hc2] <;> iassumption
  iintro HO
  iapply (wp_sig C S K 3 c (X0 c)) $$ [HO Ht3 Hc3 Hs3]
  · isplitr; · iexact HR
    isplitl [HO]; · iexact HO
    isplitl [Ht3]; · iexact Ht3
    isplitl [Hc3] <;> iassumption
  iintro HO
  iapply (wp_bar C S K c (X0 c) (above_X0 c)) $$ [HO Hc Ha]
  · isplitr; · iexact HR
    isplitr; · iexact Hlev
    isplitl [HO]; · iexact HO
    isplitl [Hc] <;> iassumption
  iintro ⟨HO, Hz, Hp⟩
  iapply Hk
  isplitl [HO]; · iexact HO
  isplitl [Hz]; · iexact Hz
  iapply (Entails.of_eq (big4 _)) $$ Hp

/-- The last round. -/
theorem wp_last (c n n' : Dev nD) (hn : n = nb 3 c) (hn' : n' = nb 3 c) (w : Vec F S1024x1024 .f32) (o : Vec F S1x256x1024 .f32)
    {Q : PUnit → sProp 𝕄} :
    iprop(records C S K ∗ levAts L lv ∗ owe c (X3 c) ∗ rneed 3 c ∗ ctxPts c (C 3 c) ∗ stPts c (S 3 c) ∗ at_ c cc0_stg4_0 w ∗ at_ c cc0_stg5_0 o)
      ⊢ iprop(((owe c 0 ∗ rzero 3 c ∗ (cFree 3 c ∗ sFree 3 c) ∗ ctxPts c (C 3 c) ∗ stPts c (S 3 c) ∗ at_ c cc0_stg4_0 w
            ∗ at_ c cc0_stg5_0 (lastOut (C 3 c) (C 3 (nb 3 c)) (S 3 c) (S 3 (nb 3 c)) w)) -∗ Q ⟨⟩)
          -∗ W c (lastRound (Memref.whole cc0_stg4_0) (Memref.whole cc0_stg5_0) n n') Q) := by
  unfold lastRound X3
  iintro ⟨#HR, #Hlev, HO, Hn, HC, HS, Hw, Ho⟩ Hk
  iapply (wp_comm C S K 3 c n n' hn hn' 0 (Above.zero _)) $$ [HO Hn HC HS]
  · isplitr; · iexact HR
    isplitr; · iexact Hlev
    isplitl [HO]; · iexact HO
    isplitl [Hn]; · iexact Hn
    isplitl [HC] <;> iassumption
  unfold rgot cHas sHas
  iintro ⟨HO, Hz, ⟨⟨%f, %hf, Hf⟩, ⟨%g, %hg, Hg⟩⟩, HC, HS⟩
  iapply (wp_ldS c 0 _) $$ HS; iintro HS
  iapply (wp_ldS c 1 _) $$ HS; iintro HS
  iapply (wp_ldC c _) $$ HC; iintro HC
  iapply (wp_ldSr c 3 0 g) $$ Hg; iintro Hg
  iapply (wp_ldSr c 3 1 g) $$ Hg; iintro Hg
  iapply (wp_ldCr c 3 f) $$ Hf; iintro Hf
  simp only [Prog.lift, Prog.bind_op, Prog.bind_ret]
  iapply (wp_load 𝒱₀ (c : Thread nD τ) none Set.univ (m := Memref.whole cc0_stg4_0) (Finset.subset_univ _)) $$ Hw; iintro Hw
  rw [rd_wo]
  iapply (wp_load 𝒱₀ (c : Thread nD τ) none Set.univ (m := Memref.whole cc0_stg5_0) (Finset.subset_univ _)) $$ Ho; iintro Ho
  iapply (wp_store 𝒱₀ (c : Thread nD τ) none Set.univ (m := Memref.whole cc0_stg5_0) (r := r3x) (Mk := Finset.univ) (Finset.subset_univ _)) $$ Ho; iintro Ho
  rw [wr_o, pay_last, hf, hg, wp_ret]; imodintro
  iapply Hk
  unfold cFree sFree
  isplitl [HO]; · iexact HO
  isplitl [Hz]; · iexact Hz
  isplitl [Hf Hg]
  · isplitl [Hf]
    · iexists f; iexact Hf
    iexists g; iexact Hg
  isplitl [HC]; · iexact HC
  isplitl [HS]; · iexact HS
  isplitl [Hw] <;> iassumption

end Run

end Cert.Exchange

end
-- ==== Proof.Sound.lean ====
/-
The whole body, run from the ghost state it starts with, and the library's obligation on it.
-/
module

public import proofs.«01_k».proof.Proof.Body
public import proofs.«01_k».proof.Proof.Gen.KernelIdeal.Frame

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The staging buffers with the operands, and the output's. -/
def held (c : Dev nD) (o : Vec F S1x256x1024 .f32) : sProp 𝕄 :=
  iprop(at_ c cc0_stg0_0 (xIn m c) ∗ at_ c cc0_stg1_0 (wqIn m c) ∗ at_ c cc0_stg2_0 (kIn m c) ∗ at_ c cc0_stg3_0 (vIn m c) ∗ at_ c cc0_stg4_0 (woIn m c) ∗ at_ c cc0_stg5_0 o)

/-- The body from its start to its end. -/
theorem wp_flat (c : Dev nD) (o : Vec F S1x256x1024 .f32) (Q : PUnit → sProp 𝕄) :
    iprop(Φ₀ m c ∗ owe c (O₀ c) ∗ held m c o)
      ⊢ iprop(((Φ₁ (F := F) c ∗ owe c 0 ∗ held m c (outAt m c)) -∗ Q ⟨⟩)
          -∗ W c (flat (Memref.whole cc0_stg0_0) (Memref.whole cc0_stg1_0) (Memref.whole cc0_stg2_0) (Memref.whole cc0_stg3_0) (Memref.whole cc0_stg4_0) (Memref.whole cc0_stg5_0)) Q) := by
  unfold flat Φ₀ start bufs held
  rw [big4]
  simp only [Prog.lift, Prog.bind_op, Prog.bind_ret, wp_deviceId]
  iintro ⟨⟨⟨⟨%K, #HR⟩, #Hlev, Hc, Ha, ⟨Ht0, Hr0⟩, ⟨Ht1, Hr1⟩, ⟨Ht2, Hr2⟩, ⟨Ht3, Hr3⟩⟩, ⟨%f, HC⟩, ⟨%g, HS⟩, Hsl⟩, HO, Hx, Hwq, Hk, Hv, Hwo, Ho⟩ HQ
  iapply (wp_hand (Cs m) (Ss m) K c) $$ [HO Hc Ha Ht0 Ht1 Ht2 Ht3 Hsl]
  · isplitr; · iexact HR
    isplitr; · iexact Hlev
    isplitl [HO]; · iexact HO
    isplitl [Hc]; · iexact Hc
    isplitl [Ha]; · iexact Ha
    isplitr [Hsl]
    · isplitl [Ht0]; · iexact Ht0
      isplitl [Ht1]; · iexact Ht1
      isplitl [Ht2] <;> iassumption
    iexact Hsl
  iintro ⟨HO, Hzb, Hp0, Hp1, Hp2, Hp3⟩
  iapply (wp_load 𝒱₀ (c : Thread nD τ) none Set.univ (m := Memref.whole cc0_stg0_0) (Finset.subset_univ _)) $$ Hx; iintro Hx
  rw [rd_x]
  iapply (wp_load 𝒱₀ (c : Thread nD τ) none Set.univ (m := Memref.whole cc0_stg1_0) (Finset.subset_univ _)) $$ Hwq; iintro Hwq
  rw [rd_wq]
  iapply (wp_load 𝒱₀ (c : Thread nD τ) none Set.univ (m := Memref.whole cc0_stg2_0) (Finset.subset_univ _)) $$ Hk; iintro Hk
  rw [rd_k]
  iapply (wp_load 𝒱₀ (c : Thread nD τ) none Set.univ (m := Memref.whole cc0_stg3_0) (Finset.subset_univ _)) $$ Hv; iintro Hv
  rw [rd_v]
  iapply (wp_put c f g (ctx0 m c) (locM (xIn m c) (wqIn m c) (kIn m c)) (locL (xIn m c) (wqIn m c) (kIn m c))) $$ [HC HS]
  · isplitl [HC]; · iexact HC
    iexact HS
  iintro ⟨HC, HS⟩
  iapply (wp_round (Cs m) (Ss m) K 0 1 c _ _ (dst5 c _) (dst6 c _) (X1 c) (above_X1 c) rfl rfl) $$ [HO Hr0 Hp0 HC HS]
  · isplitr; · iexact HR
    isplitr; · iexact Hlev
    isplitl [HO]; · iexact HO
    isplitl [Hr0 Hp0]
    · unfold rneed
      icases Hr0 with ⟨H1, H2, H3⟩
      isplitl [H1]; · iexact H1
      isplitl [H2]; · iexact H2
      isplitl [H3] <;> iassumption
    isplitl [HC]; · iexact HC
    iexact HS
  iintro ⟨HO, Hz0, Hg0, HC, HS⟩
  iapply (wp_round (Cs m) (Ss m) K 1 2 c _ _ (dst7 c _) (dst8 c _) (X2 c) (above_X2 c) rfl rfl) $$ [HO Hr1 Hp1 HC HS]
  · isplitr; · iexact HR
    isplitr; · iexact Hlev
    isplitl [HO]; · iexact HO
    isplitl [Hr1 Hp1]
    · unfold rneed
      icases Hr1 with ⟨H1, H2, H3⟩
      isplitl [H1]; · iexact H1
      isplitl [H2]; · iexact H2
      isplitl [H3] <;> iassumption
    isplitl [HC]; · iexact HC
    iexact HS
  iintro ⟨HO, Hz1, Hg1, HC, HS⟩
  iapply (wp_round (Cs m) (Ss m) K 2 3 c _ _ (dst9 c _) (dst10 c _) (X3 c) (above_X3 c) rfl rfl) $$ [HO Hr2 Hp2 HC HS]
  · isplitr; · iexact HR
    isplitr; · iexact Hlev
    isplitl [HO]; · iexact HO
    isplitl [Hr2 Hp2]
    · unfold rneed
      icases Hr2 with ⟨H1, H2, H3⟩
      isplitl [H1]; · iexact H1
      isplitl [H2]; · iexact H2
      isplitl [H3] <;> iassumption
    isplitl [HC]; · iexact HC
    iexact HS
  iintro ⟨HO, Hz2, Hg2, HC, HS⟩
  iapply (wp_last (Cs m) (Ss m) K c _ _ (dst11 c _) (dst12 c _) (woIn m c) o) $$ [HO Hr3 Hp3 HC HS Hwo Ho]
  · isplitr; · iexact HR
    isplitr; · iexact Hlev
    isplitl [HO]; · iexact HO
    isplitl [Hr3 Hp3]
    · unfold rneed
      icases Hr3 with ⟨H1, H2, H3⟩
      isplitl [H1]; · iexact H1
      isplitl [H2]; · iexact H2
      isplitl [H3] <;> iassumption
    isplitl [HC]; · iexact HC
    isplitl [HS]; · iexact HS
    isplitl [Hwo]; · iexact Hwo
    iexact Ho
  iintro ⟨HO, Hz3, Hg3, HC, HS, Hwo, Ho⟩
  iapply HQ
  unfold Φ₁ bufs slots
  rw [big4, big4]
  isplitl [HC HS Hg0 Hg1 Hg2 Hg3 Hzb Hz0 Hz1 Hz2 Hz3]
  · isplitl [HC HS Hg0 Hg1 Hg2 Hg3]
    · isplitl [HC]; · iexists _; iexact HC
      isplitl [HS]; · iexists _; iexact HS
      isplitl [Hg0]; · iexact Hg0
      isplitl [Hg1]; · iexact Hg1
      isplitl [Hg2] <;> iassumption
    isplitl [Hzb]; · iexact Hzb
    isplitl [Hz0]; · iexact Hz0
    isplitl [Hz1]; · iexact Hz1
    isplitl [Hz2] <;> iassumption
  isplitl [HO]; · iexact HO
  isplitl [Hx]; · iexact Hx
  isplitl [Hwq]; · iexact Hwq
  isplitl [Hk]; · iexact Hk
  isplitl [Hv]; · iexact Hv
  isplitl [Hwo]; · iexact Hwo
  iexact Ho

/-! ## The library's obligation -/

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 6)).fetch t = true := by rw [fin_N t]; rfl
theorem before_0 (c : Dev nD) (d) : (dats m ρ 0 c).before (0 : Fin 6) t₀ d = xIn m c := by
  unfold Dat.before; rw [if_pos (fetch_0 t₀)]; rfl
theorem fetch_1 (t : Fin cfg0.N) : (cfg0.win (1 : Fin 6)).fetch t = true := by rw [fin_N t]; rfl
theorem before_1 (c : Dev nD) (d) : (dats m ρ 0 c).before (1 : Fin 6) t₀ d = wqIn m c := by
  unfold Dat.before; rw [if_pos (fetch_1 t₀)]; rfl
theorem fetch_2 (t : Fin cfg0.N) : (cfg0.win (2 : Fin 6)).fetch t = true := by rw [fin_N t]; rfl
theorem before_2 (c : Dev nD) (d) : (dats m ρ 0 c).before (2 : Fin 6) t₀ d = kIn m c := by
  unfold Dat.before; rw [if_pos (fetch_2 t₀)]; rfl
theorem fetch_3 (t : Fin cfg0.N) : (cfg0.win (3 : Fin 6)).fetch t = true := by rw [fin_N t]; rfl
theorem before_3 (c : Dev nD) (d) : (dats m ρ 0 c).before (3 : Fin 6) t₀ d = vIn m c := by
  unfold Dat.before; rw [if_pos (fetch_3 t₀)]; rfl
theorem fetch_4 (t : Fin cfg0.N) : (cfg0.win (4 : Fin 6)).fetch t = true := by rw [fin_N t]; rfl
theorem before_4 (c : Dev nD) (d) : (dats m ρ 0 c).before (4 : Fin 6) t₀ d = woIn m c := by
  unfold Dat.before; rw [if_pos (fetch_4 t₀)]; rfl

def bodyPre (c : Dev nD) : sProp 𝕄 :=
  iprop(Φ₀ m c ∗ (dats m ρ 0 c).owesAt () t₀.castSucc ∗ (∃ d, stg c cc0_stg0_0 ((dats m ρ 0 c).before (0 : Fin 6) t₀ d)) ∗ (∃ d, stg c cc0_stg1_0 ((dats m ρ 0 c).before (1 : Fin 6) t₀ d)) ∗ (∃ d, stg c cc0_stg2_0 ((dats m ρ 0 c).before (2 : Fin 6) t₀ d)) ∗ (∃ d, stg c cc0_stg3_0 ((dats m ρ 0 c).before (3 : Fin 6) t₀ d)) ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ (F := F) c ∗ (dats m ρ 0 c).owesAt () t₀.succ ∗ stg c cc0_stg0_0 (xIn m c) ∗ stg c cc0_stg1_0 (wqIn m c) ∗ stg c cc0_stg2_0 (kIn m c) ∗ stg c cc0_stg3_0 (vIn m c) ∗ stg c cc0_stg4_0 (woIn m c) ∗ stg c cc0_stg5_0 (outAt m c))

theorem sound_body (c : Dev nD) :
    bodyPre m ρ c ⊢ W c (flat (Memref.whole cc0_stg0_0) (Memref.whole cc0_stg1_0) (Memref.whole cc0_stg2_0) (Memref.whole cc0_stg3_0) (Memref.whole cc0_stg4_0) (Memref.whole cc0_stg5_0)) (fun _ => bodyPost m ρ c) := by
  unfold bodyPre
  iintro ⟨HΦ, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  rw [before_0 m ρ c d0] at hg0
  rw [before_1 m ρ c d1] at hg1
  rw [before_2 m ρ c d2] at hg2
  rw [before_3 m ρ c d3] at hg3
  rw [before_4 m ρ c d4] at hg4
  subst hg0 hg1 hg2 hg3 hg4
  unfold Dat.owesAt Pipeline.owesWithin
  icases Ho with ⟨%A, %hA, HO⟩
  rw [show (dats m ρ 0 c).owed t₀.castSucc = O₀ c from rfl]
  iapply (wp_flat m c g5 (fun _ => bodyPost m ρ c)) $$ [HΦ HO H0 H1 H2 H3 H4 H5]
  · isplitl [HΦ]; · iexact HΦ
    isplitl [HO]; · unfold owe; iexists A; iexact HO
    unfold held
    isplitl [H0]; · iexact H0
    isplitl [H1]; · iexact H1
    isplitl [H2]; · iexact H2
    isplitl [H3]; · iexact H3
    isplitl [H4] <;> iassumption
  unfold owe held bodyPost Dat.owesAt Pipeline.owesWithin
  rw [show (dats m ρ 0 c).owed t₀.succ = 0 from rfl]
  iintro ⟨HΦ, ⟨%A', HO⟩, H0, H1, H2, H3, H4, H5⟩
  isplitl [HΦ]; · iexact HΦ
  isplitl [HO]
  · iexists A'
    isplitr; · (ipureintro; exact fun _ _ => Or.inl trivial)
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem body_obligation (c : Dev nD) : BodyObligation (dats (F := F) m ρ 0 c) (defs₀ (F := F)) 𝒱₀ () Set.univ := fun t => by
  rw [fin_N t]
  rw [bigSep_W0, bigSep_W0]
  simp only [owns_stage]
  show bodyPre m ρ c ⊢ W c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  rw [body_flat]
  exact sound_body m ρ c

end Cert.Exchange

end
-- ==== Proof.Launch.lean ====
/-
The launch: seventeen cells a device dealt around the cube, and the run of the whole program.
-/
module

public import proofs.«01_k».proof.Proof.Sound
public import Idealize.ShloMosaic.Lib.Ring
public import Idealize.ShloMosaic.Lib.Pipeline.CollectiveSegs
public import proofs.«01_k».proof.Proof.Gen.KernelIdeal.Frame

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## Cells and tokens -/

theorem csem_injective : Function.Injective (csem : Fin 17 → SemLoc sig) := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- The duties of a device's own cells: duty `r` of its barrier cell, and the one duty of each transfer cell of round `r`. -/
def duty (r : Fin 4) (k : Fin 5) : SemLoc sig × Fin 4 := Fin.cases (.reg barS, r) (fun κ => (.dma (dq κ r), 0)) k
theorem duty_injective : Function.Injective (fun x : Fin 4 × Fin 5 => duty x.1 x.2) := by decide
abbrev tokOf (x : Dev nD × Fin 4 × Fin 5) : GSem nD τ sig × ℕ × Fin 4 := (((x.1 : Thread nD τ), (duty x.2.1 x.2.2).1), 0, (duty x.2.1 x.2.2).2)
theorem tokOf_injective : Function.Injective tokOf := by
  rintro ⟨c, x⟩ ⟨c', x'⟩ h
  have h1 : c = c' := congrArg (fun y : GSem nD τ sig × ℕ × Fin 4 => y.1.1.1) h
  have h2 : duty x.1 x.2 = duty x'.1 x'.2 := Prod.ext (congrArg (fun y : GSem nD τ sig × ℕ × Fin 4 => y.1.2) h) (congrArg (fun y : GSem nD τ sig × ℕ × Fin 4 => y.2.2) h)
  rw [h1, duty_injective h2]
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

theorem big5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- Sixteen transfer cells, round by round. -/
theorem big16 (Φ : Fin 16 → sProp 𝕄) : bigSep Finset.univ Φ = bigSep Finset.univ fun r : Fin 4 => iprop(Φ (oix 0 r) ∗ Φ (oix 1 r) ∗ Φ (oix 2 r) ∗ Φ (oix 3 r)) := by
  have e : ∀ x : Fin 4 × Fin 4, ((Equiv.prodComm (Fin 4) (Fin 4)).trans (finProdFinEquiv (m := 4) (n := 4))) x = oix x.2 x.1 := by decide
  rw [bigSep_univ_equiv ((Equiv.prodComm (Fin 4) (Fin 4)).trans (finProdFinEquiv (m := 4) (n := 4))) Φ, bigSep_univ_prod]
  refine bigSep_congr fun r _ => ?_
  rw [big4]; simp only [e]
theorem big17 (Φ : Fin 17 → sProp 𝕄) : bigSep Finset.univ Φ = iprop(Φ 0 ∗ bigSep Finset.univ fun r : Fin 4 => iprop(Φ (kx 0 r) ∗ Φ (kx 1 r) ∗ Φ (kx 2 r) ∗ Φ (kx 3 r))) := by
  have h : bigSep Finset.univ Φ = iprop(Φ 0 ∗ bigSep Finset.univ fun k : Fin 16 => Φ k.succ) := by
    rw [bigSep_univ_at _ (0 : Fin 17), show (Finset.univ : Finset (Fin 17)).erase 0 = Finset.univ.map ⟨Fin.succ, Fin.succ_injective 16⟩ from by decide, bigSep_map]; rfl
  rw [h, big16 fun k => Φ k.succ]

/-- The tokens of device `c`'s own cells, round by round. -/
def toks (c : Dev nD) : sProp 𝕄 :=
  bigSep Finset.univ fun r : Fin 4 => iprop(dutyTok ER (barCell c) 0 r ∗ dutyTok ER (cell 0 r c) 0 (0 : Fin 4) ∗ dutyTok ER (cell 1 r c) 0 (0 : Fin 4) ∗ dutyTok ER (cell 2 r c) 0 (0 : Fin 4) ∗ dutyTok ER (cell 3 r c) 0 (0 : Fin 4))

def G (c : Dev nD) : sProp 𝕄 :=
  iprop((bigSep Finset.univ fun k : Fin 17 => roundState ER (sched (Cs m) (Ss m)) (kcell (c, k)) 0)
    ∗ (bigSep Finset.univ fun k : Fin 17 => iprop(atPos ER (kcell (c, k)) 0 ∅ 0 ∗ reached ER (kcell (c, k)) 0)) ∗ toks (F := F) c)

/-- The tokens of the duties device `c` pays. -/
def payToks (c : Dev nD) : sProp 𝕄 := bigSep Finset.univ fun r : Fin 4 => iprop(dutyTok ER (barCell (nb r c)) 0 r ∗ rtoks (F := F) r c)
def linear (c : Dev nD) : sProp 𝕄 := iprop((bigSep Finset.univ fun k : Fin 17 => atPos ER (kcell (c, k)) 0 ∅ 0) ∗ payToks (F := F) c)
def G' (c : Dev nD) : sProp 𝕄 := iprop((∃ K : Dev nD × Fin 17 → ℕ, records (Cs m) (Ss m) K) ∗ linear (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks; rw [bigSep_univ_prod]
    exact bigSep_congr fun r _ => by rw [big5]; rfl
  iintro HX
  imod (Rounds.fund ER (sched (Cs m) (Ss m)) allCells allToks) $$ HX with ⟨Hst, Hr, Hat, Htok⟩
  imodintro
  ihave Hst' := (Entails.of_eq (hX fun g => roundState ER (sched (Cs m) (Ss m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems_eq (c : Dev nD) : (Pipeline.ownSems0 (Ix := Unit) (Name := ℕ) (U := UU) (Lvl := ℕ) (Val := Elt F) (τ := τ) osem c : sProp 𝕄)
    = bigSep Finset.univ fun r : Fin 4 => rzero (F := F) r c := by
  unfold Pipeline.ownSems0; rw [big16]; rfl
theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems_eq, unscoped_eq, big17]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (Cs m) (Ss m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems_eq (F := F) c) $$ [Hos Hus]
  · isplitl [Hos] <;> iassumption
  imod (show iprop((bigSep Finset.univ fun k : Fin 17 => semVal (kcell (c, k)) 0) ∗ bigSep Finset.univ fun k : Fin 17 => roundState ER (sched (Cs m) (Ss m)) (kcell (c, k)) 0)
      ⊢ (|={Set.univ}=> bigSep Finset.univ fun k => iprop(∃ κ : ℕ, cellInv ER (sched (Cs m) (Ss m)) κ (kcell (c, k))) : sProp 𝕄) from by
        rw [← bigSep_sep']
        exact (bigSep_mono fun k _ => (Rounds.body_intro ER (sched (Cs m) (Ss m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem big_swap (Φ : Dev nD → Fin 4 → sProp 𝕄) :
    (bigSep Finset.univ fun c => bigSep Finset.univ fun r => Φ c r) = bigSep Finset.univ fun r => bigSep Finset.univ fun c => Φ c r := by
  rw [← bigSep_univ_prod (fun x : Dev nD × Fin 4 => Φ x.1 x.2), ← bigSep_univ_prod (fun x : Fin 4 × Dev nD => Φ x.2 x.1)]
  exact bigSep_univ_equiv (Equiv.prodComm (Fin 4) (Dev nD)) (fun x : Dev nD × Fin 4 => Φ x.1 x.2)

/-- The tokens dealt around the cube: a round's barrier and receive tokens go to the partner. -/
theorem toks_around : (bigSep Finset.univ fun c : Dev nD => (toks (F := F) c : sProp 𝕄)) ⊢ bigSep Finset.univ fun c : Dev nD => payToks (F := F) c := by
  have key (r : Fin 4) : (bigSep Finset.univ fun c : Dev nD => iprop(dutyTok ER (barCell c) 0 r ∗ dutyTok ER (cell 0 r c) 0 (0 : Fin 4) ∗ dutyTok ER (cell 1 r c) 0 (0 : Fin 4) ∗ dutyTok ER (cell 2 r c) 0 (0 : Fin 4) ∗ dutyTok ER (cell 3 r c) 0 (0 : Fin 4)) : sProp 𝕄)
      ⊢ bigSep Finset.univ fun c : Dev nD => iprop(dutyTok ER (barCell (nb r c)) 0 r ∗ rtoks (F := F) r c) := by
    unfold rtoks
    simp only [bigSep_sep']
    rw [bigSep_univ_equiv (nbE r) (fun c : Dev nD => (dutyTok ER (barCell c) 0 r : sProp 𝕄)),
      bigSep_univ_equiv (nbE r) (fun c : Dev nD => (dutyTok ER (cell 1 r c) 0 (0 : Fin 4) : sProp 𝕄)),
      bigSep_univ_equiv (nbE r) (fun c : Dev nD => (dutyTok ER (cell 3 r c) 0 (0 : Fin 4) : sProp 𝕄))]
    iintro ⟨H, H0, H1, H2, H3⟩
    isplitl [H]; · iexact H
    isplitl [H0]; · iexact H0
    isplitl [H2]; · iexact H2
    isplitl [H1]; · iexact H1
    iexact H3
  unfold toks payToks
  rw [big_swap, big_swap]
  exact bigSep_mono fun r _ => key r

theorem with_persistent {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

theorem regroup :
    (bigSep Finset.univ fun c : Dev nD => iprop((bigSep Finset.univ fun k => iprop(∃ κ : ℕ, cellInv ER (sched (Cs m) (Ss m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 17 => iprop(∃ κ : ℕ, cellInv ER (sched (Cs m) (Ss m)) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched (Cs m) (Ss m)) κ (kcell ck) : sProp 𝕄))) $$ HI
  icases HK with ⟨%K, #HI⟩
  ihave Htk := (toks_around (F := F)) $$ Htok
  iapply (with_persistent (R := records (Cs m) (Ss m) K) (Φ := fun c => linear (F := F) c) fun c _ => show iprop(records (Cs m) (Ss m) K ∗ linear (F := F) c) ⊢ G' m c from by
    unfold G'
    iintro ⟨H1, H2⟩
    isplitl [H1]; · iexists K; iexact H1
    iexact H2)
  isplitr
  · unfold records; isplitl; · iexact HI
    iexact HR
  · unfold linear; rw [bigSep_sep']
    isplitl [Hat]; · iexact Hat
    iexact Htk

/-- Own and runtime semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_bar (r : Fin 4) (c : Dev nD) : (Pipeline.launchCred (barDue r) c : sProp 𝕄) ⊢ cred (tallyAt (barCell c) () 1) :=
  Pipeline.launchCred_tallyAt (.reg barS) (nb r) (nb r) (nb_nb r) (nb_nb r) () 1 c

theorem cred_due (r : Fin 4) (O : Dev nD → CellTallies nD τ sig Unit) (c : Dev nD) :
    (Pipeline.launchCred (fun d => due r d (O d)) c : sProp 𝕄) ⊢ iprop(Pipeline.launchCred O c ∗ rcred r c) := by
  unfold due
  rw [Pipeline.launchCred_add (fun d => O d + tallyAt (cell 3 r (nb r d)) () NS) (fun d => tallyAt (cell 1 r (nb r d)) () NC),
    Pipeline.launchCred_add O (fun d => tallyAt (cell 3 r (nb r d)) () NS)]
  unfold rcred
  iintro ⟨⟨H, H3⟩, H1⟩
  isplitl [H]; · iexact H
  isplitl [H1]
  · iapply (Pipeline.launchCred_tallyAt (.dma (dq 1 r)) (nb r) (nb r) (nb_nb r) (nb_nb r) () NC c); iexact H1
  iapply (Pipeline.launchCred_tallyAt (.dma (dq 3 r)) (nb r) (nb r) (nb_nb r) (nb_nb r) () NS c); iexact H3

theorem cred_plus (A B : CellTallies nD τ sig Unit) : (cred (A + B) : sProp 𝕄) = iprop(cred A ∗ cred B) :=
  BI.Entails.antisymm (cred_add A B).1 (cred_add A B).2

theorem creds (c : Dev nD) :
    (Pipeline.launchCred O₀ c : sProp 𝕄) ⊢ iprop(cred (tallyAt (barCell c) () 4) ∗ bigSep Finset.univ fun r : Fin 4 => rcred r c) := by
  rw [big4]
  show (Pipeline.launchCred (fun d => X0 d + barDue 3 d + barDue 2 d + barDue 1 d + barDue 0 d) c : sProp 𝕄) ⊢ _
  rw [Pipeline.launchCred_add (fun d => X0 d + barDue 3 d + barDue 2 d + barDue 1 d) (barDue 0),
    Pipeline.launchCred_add (fun d => X0 d + barDue 3 d + barDue 2 d) (barDue 1),
    Pipeline.launchCred_add (fun d => X0 d + barDue 3 d) (barDue 2), Pipeline.launchCred_add X0 (barDue 3)]
  have e : (cred (tallyAt (barCell c) () 4) : sProp 𝕄) = iprop((((cred (tallyAt (barCell c) () 1) ∗ cred (tallyAt (barCell c) () 1)) ∗ cred (tallyAt (barCell c) () 1)) ∗ cred (tallyAt (barCell c) () 1))) := by
    rw [show (tallyAt (barCell c) () 4 : CellTallies nD τ sig Unit) = tallyAt (barCell c) () 1 + tallyAt (barCell c) () 1 + tallyAt (barCell c) () 1 + tallyAt (barCell c) () 1 from by
      rw [tallyAt_add, tallyAt_add, tallyAt_add]]
    rw [cred_plus, cred_plus, cred_plus]
  rw [e]
  iintro ⟨⟨⟨⟨HX, H3⟩, H2⟩, H1⟩, H0⟩
  ihave H := (show (Pipeline.launchCred X0 c : sProp 𝕄) ⊢ _ from cred_due (F := F) 0 X1 c) $$ HX
  icases H with ⟨HX, Hr0⟩
  ihave H := (show (Pipeline.launchCred X1 c : sProp 𝕄) ⊢ _ from cred_due (F := F) 1 X2 c) $$ HX
  icases H with ⟨HX, Hr1⟩
  ihave H := (show (Pipeline.launchCred X2 c : sProp 𝕄) ⊢ _ from cred_due (F := F) 2 X3 c) $$ HX
  icases H with ⟨HX, Hr2⟩
  ihave H := (show (Pipeline.launchCred X3 c : sProp 𝕄) ⊢ _ from cred_due (F := F) 3 (fun _ => 0) c) $$ HX
  icases H with ⟨-, Hr3⟩
  isplitl [H0 H1 H2 H3]
  · isplitl [H0 H1 H2]
    · isplitl [H0 H1]
      · isplitl [H0]
        · iapply (cred_bar (F := F) 0 c); iexact H0
        iapply (cred_bar (F := F) 1 c); iexact H1
      iapply (cred_bar (F := F) 2 c); iexact H2
    iapply (cred_bar (F := F) 3 c); iexact H3
  isplitl [Hr0]; · iexact Hr0
  isplitl [Hr1]; · iexact Hr1
  isplitl [Hr2] <;> iassumption

/-! ## The receive buffers, slot by slot -/

theorem crect_disj (a b : Fin 4) (h : a ≠ b) : Disjoint (crect a).set (crect b).set := by
  rw [Finset.disjoint_left]
  intro i hi hj
  have h1 : a.val ≤ (i 0).val ∧ (i 0).val < a.val + 1 := Rect.mem_set_unit.mp hi 0
  have h2 : b.val ≤ (i 0).val ∧ (i 0).val < b.val + 1 := Rect.mem_set_unit.mp hj 0
  exact h (Fin.ext (by omega))
theorem srect_disj (a b : Fin 4) (h : a ≠ b) : Disjoint (srect a).set (srect b).set := by
  rw [Finset.disjoint_left]
  intro i hi hj
  have h1 : a.val ≤ (i 0).val ∧ (i 0).val < a.val + 1 := Rect.mem_set_unit.mp hi 0
  have h2 : b.val ≤ (i 0).val ∧ (i 0).val < b.val + 1 := Rect.mem_set_unit.mp hj 0
  exact h (Fin.ext (by omega))
theorem crect_cover : (Finset.univ : Finset (Fin 4)).biUnion (fun r => (crect r).set) = Finset.univ := by
  refine Finset.eq_univ_iff_forall.mpr fun i => Finset.mem_biUnion.mpr ⟨i 0, Finset.mem_univ _, ?_⟩
  refine Rect.mem_set_unit.mpr fun a => ?_
  match a with
  | ⟨0, _⟩ => exact ⟨le_rfl, Nat.lt_succ_self _⟩
  | ⟨1, h⟩ => exact ⟨Nat.zero_le _, by have := (i ⟨1, h⟩).isLt; show (i ⟨1, h⟩).val < 0 + 8; exact (Nat.zero_add 8).symm ▸ this⟩
  | ⟨2, h⟩ => exact ⟨Nat.zero_le _, by have := (i ⟨2, h⟩).isLt; show (i ⟨2, h⟩).val < 0 + 256; exact (Nat.zero_add 256).symm ▸ this⟩
  | ⟨3, h⟩ => exact ⟨Nat.zero_le _, by have := (i ⟨3, h⟩).isLt; show (i ⟨3, h⟩).val < 0 + 128; exact (Nat.zero_add 128).symm ▸ this⟩
theorem srect_cover : (Finset.univ : Finset (Fin 4)).biUnion (fun r => (srect r).set) = Finset.univ := by
  refine Finset.eq_univ_iff_forall.mpr fun i => Finset.mem_biUnion.mpr ⟨i 0, Finset.mem_univ _, ?_⟩
  refine Rect.mem_set_unit.mpr fun a => ?_
  match a with
  | ⟨0, _⟩ => exact ⟨le_rfl, Nat.lt_succ_self _⟩
  | ⟨1, h⟩ => exact ⟨Nat.zero_le _, by have := (i ⟨1, h⟩).isLt; show (i ⟨1, h⟩).val < 0 + 2; exact (Nat.zero_add 2).symm ▸ this⟩
  | ⟨2, h⟩ => exact ⟨Nat.zero_le _, by have := (i ⟨2, h⟩).isLt; show (i ⟨2, h⟩).val < 0 + 8; exact (Nat.zero_add 8).symm ▸ this⟩
  | ⟨3, h⟩ => exact ⟨Nat.zero_le _, by have := (i ⟨3, h⟩).isLt; show (i ⟨3, h⟩).val < 0 + 256; exact (Nat.zero_add 256).symm ▸ this⟩

theorem cFree_eq (r : Fin 4) (c : Dev nD) : (cFree (F := F) r c : sProp 𝕄)
    = iprop(∃ f : Buf (Elt F) ((c : Thread nD τ).loc cc0_scratch1), ((c : Thread nD τ).loc cc0_scratch1) ↦[(crect r).set]{fullShare} f) := by
  unfold cFree; rw [cslot_set]
theorem sFree_eq (r : Fin 4) (c : Dev nD) : (sFree (F := F) r c : sProp 𝕄)
    = iprop(∃ f : Buf (Elt F) ((c : Thread nD τ).loc cc0_scratch3), ((c : Thread nD τ).loc cc0_scratch3) ↦[(srect r).set]{fullShare} f) := by
  unfold sFree; rw [sslot_set]
theorem slots_eq (c : Dev nD) : (slots (F := F) c : sProp 𝕄)
    = iprop((bigSep Finset.univ fun r : Fin 4 => iprop(∃ f : Buf (Elt F) ((c : Thread nD τ).loc cc0_scratch1), ((c : Thread nD τ).loc cc0_scratch1) ↦[(crect r).set]{fullShare} f))
      ∗ bigSep Finset.univ fun r : Fin 4 => iprop(∃ f : Buf (Elt F) ((c : Thread nD τ).loc cc0_scratch3), ((c : Thread nD τ).loc cc0_scratch3) ↦[(srect r).set]{fullShare} f)) := by
  unfold slots
  rw [bigSep_sep', bigSep_congr fun r _ => cFree_eq r c, bigSep_congr fun r _ => sFree_eq r c]

theorem slots_split (c : Dev nD) (f : Buf (Elt F) ((c : Thread nD τ).loc cc0_scratch1)) (g : Buf (Elt F) ((c : Thread nD τ).loc cc0_scratch3)) :
    iprop((((c : Thread nD τ).loc cc0_scratch1) ↦{fullShare} f) ∗ (((c : Thread nD τ).loc cc0_scratch3) ↦{fullShare} g)) ⊢ (slots (F := F) c : sProp 𝕄) := by
  have h1 (r : Fin 4) : (((c : Thread nD τ).loc cc0_scratch1) ↦[(crect r).set]{fullShare} f : sProp 𝕄)
      ⊢ iprop(∃ f : Buf (Elt F) ((c : Thread nD τ).loc cc0_scratch1), ((c : Thread nD τ).loc cc0_scratch1) ↦[(crect r).set]{fullShare} f) := by
    iintro H; iexists f; iexact H
  have h2 (r : Fin 4) : (((c : Thread nD τ).loc cc0_scratch3) ↦[(srect r).set]{fullShare} g : sProp 𝕄)
      ⊢ iprop(∃ f : Buf (Elt F) ((c : Thread nD τ).loc cc0_scratch3), ((c : Thread nD τ).loc cc0_scratch3) ↦[(srect r).set]{fullShare} f) := by
    iintro H; iexists g; iexact H
  rw [slots_eq, pointsTo_blocks (ℓ := (c : Thread nD τ).loc cc0_scratch1) (fun r : Fin 4 => (crect r).set) crect_disj crect_cover f,
    pointsTo_blocks (ℓ := (c : Thread nD τ).loc cc0_scratch3) (fun r : Fin 4 => (srect r).set) srect_disj srect_cover g]
  exact BI.sep_mono (bigSep_mono fun r _ => h1 r) (bigSep_mono fun r _ => h2 r)

theorem slots_join (c : Dev nD) (f₀ : Buf (Elt F) ((c : Thread nD τ).loc cc0_scratch1)) (g₀ : Buf (Elt F) ((c : Thread nD τ).loc cc0_scratch3)) : (slots (F := F) c : sProp 𝕄)
    ⊢ iprop((∃ f : Buf (Elt F) ((c : Thread nD τ).loc cc0_scratch1), ((c : Thread nD τ).loc cc0_scratch1) ↦{fullShare} f) ∗ (∃ g : Buf (Elt F) ((c : Thread nD τ).loc cc0_scratch3), ((c : Thread nD τ).loc cc0_scratch3) ↦{fullShare} g)) := by
  rw [slots_eq]
  iintro ⟨H1, H3⟩
  isplitl [H1]
  · iapply (pointsTo_blocks_join_exists (ℓ := (c : Thread nD τ).loc cc0_scratch1) (fun r : Fin 4 => (crect r).set) crect_disj crect_cover f₀); iexact H1
  iapply (pointsTo_blocks_join_exists (ℓ := (c : Thread nD τ).loc cc0_scratch3) (fun r : Fin 4 => (srect r).set) srect_disj srect_cover g₀); iexact H3

theorem ctxPts_eq (c : Dev nD) (f : CtxV F) : (ctxPts c f : sProp 𝕄) = (((c : Thread nD τ).loc cc0_scratch0) ↦{fullShare} f) := by
  unfold ctxPts; rw [View.set_whole]
theorem stPts_eq (c : Dev nD) (f : StV F) : (stPts c f : sProp 𝕄) = (((c : Thread nD τ).loc cc0_scratch2) ↦{fullShare} f) := by
  unfold stPts; rw [View.set_whole]

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H4, Hr⟩
  imodintro
  unfold start G' linear payToks rpos
  rw [big17]
  simp only [bigSep_sep']
  icases HG with ⟨HK, ⟨Hb, Ha⟩, Ht, Hd⟩
  isplitl
  · isplitl [HK]; · iexact HK
    isplitl [Hlev]; · iexact Hlev
    isplitl [H4]; · iexact H4
    isplitl [Hb]; · iexact Hb
    isplitl [Ht]; · iexact Ht
    isplitl [Hd]; · iexact Hd
    isplitl [Ha]; · iexact Ha
    iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, ⟨%f0, H0⟩, ⟨%f1, H1⟩, ⟨%f2, H2⟩, ⟨%f3, H3⟩⟩
  isplitl [Hs]; · iexact Hs
  isplitl [H0]; · iexists f0; rw [ctxPts_eq]; iexact H0
  isplitl [H2]; · iexists f2; rw [stPts_eq]; iexact H2
  iapply (slots_split c f1 f3)
  isplitl [H1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems_eq, unscoped_eq]
  unfold Φ₁ bufs
  iintro ⟨⟨⟨%f0, H0⟩, ⟨%f2, H2⟩, Hsl⟩, HzB, Hz⟩
  isplitl [HzB]; · iexact HzB
  isplitl [Hz]; · iexact Hz
  ihave H := (slots_join c (fun _ => f0 (ix3 (0 : Fin 8) (0 : Fin 256) (0 : Fin 128))) (fun _ => f2 (ix3 (0 : Fin 2) (0 : Fin 8) (0 : Fin 256)))) $$ Hsl
  icases H with ⟨H1, H3⟩
  isplitl [H0]; · iexists f0; rw [← ctxPts_eq]; iexact H0
  isplitl [H1]; · iexact H1
  isplitl [H2]; · iexists f2; rw [← stPts_eq]; iexact H2
  iexact H3

theorem waits (c : Dev nD) : (levAts L lv : sProp 𝕄) ⊢ Pipeline.cellsWaits cfgs (dats m ρ) () 0 c :=
  Pipeline.cellsWaits_intro cfgs (dats m ρ) () 0 c fun w s t => by
    refine mayWait c _ 0 ?_ ?_
    · fin_cases w <;> fin_cases s <;> exact Nat.le_refl 0
    · rcases t with ⟨_ | _, ht⟩
      · exact above_O₀ c
      · exact Above.zero _

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the program ends, each array at its computed contents
    and every counter at zero, for any float values. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
What each run leaves: the arguments and the counters, and the result of the kernel program.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Exchange

open Cert.KernelIdeal Cert.KernelIdeal.Gen

open Idealize.ShloMosaic
open Idealize.ShloMosaic.TcCoe
open Idealize.SL.Sem

variable {F : FTy → Type} [FloatOps F]

/-- The five argument arrays of every device are as they were. -/
def ArgsKept (m : (ℓ : Loc nD τ sig) → Buf (Elt F) ℓ) (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)

theorem kept_of (m : (ℓ : Loc nD τ sig) → Buf (Elt F) ℓ) (ρ : Dev nD → PrngReg)
    (mem : (ℓ : Loc nD τ sig) → Buf (Elt F) ℓ) (c : Dev nD)
    (h : ∀ w, mem ((cfg0.win w).arr.view.loc (c : Thread nD τ)) = finalA m ρ c w) : ArgsKept m mem c :=
  ⟨(h 0).trans ((dats m ρ 0 c).arrAt_in (0 : Fin 6) rfl _),
    (h 1).trans ((dats m ρ 0 c).arrAt_in (1 : Fin 6) rfl _),
    (h 2).trans ((dats m ρ 0 c).arrAt_in (2 : Fin 6) rfl _),
    (h 3).trans ((dats m ρ 0 c).arrAt_in (3 : Fin 6) rfl _),
    (h 4).trans ((dats m ρ 0 c).arrAt_in (4 : Fin 6) rfl _)⟩

/-- The kernel program ends, with its arguments kept and every counter at zero. -/
theorem run_kept (m : (ℓ : Loc nD τ sig) → Buf (Elt F) ℓ) (ρ : Dev nD → PrngReg) :
    θ_run defs (onTc (τ := τ) (main (F := F))) ⟨m, fun _ => 0, ρ⟩ (fun r =>
      (∀ c : Dev nD, ArgsKept m r.2.mem c) ∧ r.2.sem = fun _ => 0) :=
  (θ_run defs _ _).mono (fun r h => ⟨fun c => kept_of m ρ r.2.mem c (h.1 c), h.2⟩) (run_main m ρ)

theorem frame_ideal : Cert.quiescent_KernelIdeal := fun m ρ _ => run_kept (F := Ideal) m ρ

theorem table_arm (a) : Cert.Kernel.defs₀ (F := Bits) .tc 0 a = Cert.KernelIdeal.defs₀ (F := Bits) .tc 0 a := rfl

/-- The two printed programs have one table of bodies: the idealised text is the program's own. -/
theorem table_eq : Cert.Kernel.defs₀ (F := Bits) = Cert.KernelIdeal.defs₀ (F := Bits) := by
  funext p l
  have h : l = (0 : Fin 1) := Subsingleton.elim (α := Fin 1) _ _
  subst h
  funext a
  cases p with
  | tc => exact table_arm a
  | scScalar _ => rfl
  | scVector _ _ => rfl

theorem defs_eq : Cert.Kernel.defs (F := Bits) = Cert.KernelIdeal.defs (F := Bits) :=
  congrArg (Pipeline.defs (Cert.KernelIdeal.pcfgs (F := Bits))) table_eq

theorem frame_kernel : Cert.quiescent_Kernel := fun m ρ _ => by
  rw [defs_eq]
  exact run_kept (F := Bits) m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Partial.lean ====
/-
Softmax partials over the extended reals: a maximum, a sum of weights and a weighted sum over a finite set of keys,
how two of them merge, and that the quotient of the merged ones is the softmax average.
-/
module

public import Idealize.ShloMosaic.PureOps.Ideal

@[expose] public section

noncomputable section

namespace Cert.Exchange

open Idealize.ShloMosaic

/-- A nonnegative real factor distributes over a finite sum of extended reals. -/
theorem sum_mul_real {ι : Type} (A : Finset ι) (f : ι → EReal) (r : ℝ) (hr : 0 ≤ r) :
    (∑ p ∈ A, f p) * (r : EReal) = ∑ p ∈ A, f p * (r : EReal) := by
  classical
  induction A using Finset.induction_on with
  | empty => simp
  | insert a A ha ih =>
    rw [Finset.sum_insert ha, Finset.sum_insert ha, ← ih]
    exact EReal.right_distrib_of_nonneg_of_ne_top (EReal.coe_nonneg.2 hr) (EReal.coe_ne_top r) _ _

theorem coe_sum {ι : Type} (A : Finset ι) (f : ι → ℝ) : ((∑ p ∈ A, f p : ℝ) : EReal) = ∑ p ∈ A, (f p : EReal) := by
  classical
  induction A using Finset.induction_on with
  | empty => simp
  | insert a A ha ih => rw [Finset.sum_insert ha, Finset.sum_insert ha, EReal.coe_add, ih]

/-- The largest of a family with a real member that bounds it is that member. -/
theorem fold_max_eq {ι : Type} (A : Finset ι) (f : ι → EReal) (μ : ℝ) (hle : ∀ p ∈ A, f p ≤ (μ : EReal))
    (hex : ∃ p ∈ A, f p = (μ : EReal)) : A.fold max ⊥ f = (μ : EReal) := by
  refine le_antisymm ((Finset.fold_max_le _).2 ⟨bot_le, hle⟩) ((Finset.le_fold_max _).2 (.inr ?_))
  obtain ⟨p, hp, e⟩ := hex
  exact ⟨p, hp, e.ge⟩

section
variable {ι : Type} (s : ι → ℝ) (v : ι → EReal)

/-- `m`, `l` and `c` are the partials of the keys `A`, with scores `s` and values `v`: the largest score, the sum of
the exponentials of the scores less it, and the sum of the values by these weights. -/
def Part (A : Finset ι) (m l c : EReal) : Prop :=
  ∃ μ : ℝ, m = (μ : EReal) ∧ (∀ p ∈ A, s p ≤ μ) ∧ (∃ p ∈ A, s p = μ)
    ∧ l = ∑ p ∈ A, ((Real.exp (s p - μ) : ℝ) : EReal) ∧ c = ∑ p ∈ A, ((Real.exp (s p - μ) : ℝ) : EReal) * v p

theorem exp_sub_real (a b : ℝ) : Ideal.exp ((a : EReal) - (b : EReal)) = ((Real.exp (a - b) : ℝ) : EReal) := by
  rw [← EReal.coe_sub, Ideal.exp_coe]

/-- One device's own partials, as they are computed. -/
theorem Part.own (A : Finset ι) (hA : A.Nonempty) :
    Part s v A (A.fold max ⊥ fun p => (s p : EReal))
      (∑ p ∈ A, Ideal.exp ((s p : EReal) - A.fold max ⊥ fun p => (s p : EReal)))
      (∑ p ∈ A, Ideal.exp ((s p : EReal) - A.fold max ⊥ fun p => (s p : EReal)) * v p) := by
  obtain ⟨q, hq, hmax⟩ := A.exists_max_image s hA
  have e : (A.fold max ⊥ fun p => (s p : EReal)) = ((s q : ℝ) : EReal) :=
    fold_max_eq A _ (s q) (fun p hp => EReal.coe_le_coe_iff.2 (hmax p hp)) ⟨q, hq, rfl⟩
  refine ⟨s q, e, hmax, ⟨q, hq, rfl⟩, ?_, ?_⟩ <;> rw [e]
  · exact Finset.sum_congr rfl fun p _ => exp_sub_real _ _
  · exact Finset.sum_congr rfl fun p _ => by rw [exp_sub_real]

theorem exp_mul_exp (a b c : ℝ) : ((Real.exp (a - b) : ℝ) : EReal) * ((Real.exp (b - c) : ℝ) : EReal) = ((Real.exp (a - c) : ℝ) : EReal) := by
  rw [← EReal.coe_mul, ← Real.exp_add]
  congr 2
  ring

/-- Rescaled to another maximum, the sums are the sums of the rescaled weights. -/
theorem rescale_sum (A : Finset ι) (μ ν : ℝ) :
    (∑ p ∈ A, ((Real.exp (s p - μ) : ℝ) : EReal)) * ((Real.exp (μ - ν) : ℝ) : EReal) = ∑ p ∈ A, ((Real.exp (s p - ν) : ℝ) : EReal) := by
  rw [sum_mul_real _ _ _ (Real.exp_pos _).le]
  exact Finset.sum_congr rfl fun p _ => exp_mul_exp _ _ _

theorem rescale_ctx (A : Finset ι) (μ ν : ℝ) :
    (∑ p ∈ A, ((Real.exp (s p - μ) : ℝ) : EReal) * v p) * ((Real.exp (μ - ν) : ℝ) : EReal) = ∑ p ∈ A, ((Real.exp (s p - ν) : ℝ) : EReal) * v p := by
  rw [sum_mul_real _ _ _ (Real.exp_pos _).le]
  refine Finset.sum_congr rfl fun p _ => ?_
  rw [mul_right_comm, exp_mul_exp]

/-- Two partials of disjoint sets of keys merge to the partials of all of them. -/
theorem Part.merge [DecidableEq ι] {A B : Finset ι} {m l c m' l' c' : EReal} (hd : Disjoint A B) (hA : Part s v A m l c) (hB : Part s v B m' l' c') :
    Part s v (A ∪ B) (max m m') (l * Ideal.exp (m - max m m') + l' * Ideal.exp (m' - max m m'))
      (c * Ideal.exp (m - max m m') + c' * Ideal.exp (m' - max m m')) := by
  obtain ⟨μ, rfl, hle, ⟨p, hp, hpe⟩, rfl, rfl⟩ := hA
  obtain ⟨ν, rfl, hle', ⟨q, hq, hqe⟩, rfl, rfl⟩ := hB
  have e : max (μ : EReal) (ν : EReal) = ((max μ ν : ℝ) : EReal) := EReal.coe_strictMono.monotone.map_max.symm
  refine ⟨max μ ν, e, fun r hr => ?_, ?_, ?_, ?_⟩
  · rcases Finset.mem_union.1 hr with h | h
    · exact (hle r h).trans (le_max_left _ _)
    · exact (hle' r h).trans (le_max_right _ _)
  · rcases max_choice μ ν with h | h
    · exact ⟨p, Finset.mem_union_left _ hp, hpe.trans h.symm⟩
    · exact ⟨q, Finset.mem_union_right _ hq, hqe.trans h.symm⟩
  · rw [e, exp_sub_real, exp_sub_real, rescale_sum, rescale_sum, Finset.sum_union hd]
  · rw [e, exp_sub_real, exp_sub_real, rescale_ctx, rescale_ctx, Finset.sum_union hd]

/-- The maximum of a partial, and its sum of weights, are real, and the sum is positive. -/
theorem Part.sum_pos {A : Finset ι} {m l c : EReal} (h : Part s v A m l c) : ∃ r : ℝ, 0 < r ∧ l = (r : EReal) := by
  obtain ⟨μ, rfl, hle, ⟨p, hp, hpe⟩, rfl, rfl⟩ := h
  exact ⟨∑ p ∈ A, Real.exp (s p - μ), Finset.sum_pos (fun p _ => Real.exp_pos _) ⟨p, hp⟩, (coe_sum _ _).symm⟩

/-- The quotient of the weighted sum by the sum of the weights is the sum of the values by the quotients. -/
theorem Part.quotient {A : Finset ι} {m l c : EReal} (h : Part s v A m l c) :
    Ideal.div c l = ∑ p ∈ A, v p * Ideal.div (Ideal.exp ((s p : EReal) - m)) l := by
  obtain ⟨r, hr, e⟩ := h.sum_pos
  obtain ⟨μ, rfl, hle, ⟨p, hp, hpe⟩, hl, rfl⟩ := h
  rw [e]
  have h0 : (r : EReal) ≠ 0 := fun h => hr.ne' (EReal.coe_eq_zero.1 h)
  simp only [Ideal.div, if_neg h0, exp_sub_real]
  rw [← EReal.coe_inv, sum_mul_real _ _ _ (inv_pos.2 hr).le]
  exact Finset.sum_congr rfl fun p _ => by rw [mul_comm (_ : EReal) (v p), mul_assoc]

end

end Cert.Exchange

end
-- ==== Proof.Words.lean ====
/-
The three float words of the programs, as extended reals.
-/
module

public import Idealize.ShloMosaic.PureOps.Ideal

@[expose] public section

noncomputable section

namespace Cert.Exchange

open Idealize.ShloMosaic

theorem word_bot : Ideal.ofBits .f32 0xFF800000#32 = ⊥ := by
  simp [Ideal.ofBits, Ideal.ieee]
theorem word_top : Ideal.ofBits .f32 0x7F800000#32 = ⊤ := by
  simp [Ideal.ofBits, Ideal.ieee]
theorem word_scale : ∃ r : ℝ, Ideal.ofBits .f32 0x3DB504F3#32 = (r : EReal) := by
  simp only [Ideal.ofBits, Ideal.ieee]
  rw [if_neg (by decide), if_neg (by decide)]
  exact ⟨_, rfl⟩

end Cert.Exchange

end
-- ==== Proof.Local.lean ====
/-
One device's own partials over the extended reals, read at an index.
-/
module

public import proofs.«01_k».proof.Proof.Flat
public import proofs.«01_k».proof.Proof.Partial
public import proofs.«01_k».proof.Proof.Words
public import Idealize.ShloMosaic.Lib.Pointwise

@[expose] public section

set_option maxRecDepth 16384

noncomputable section

namespace Cert.Exchange

open Cert.KernelIdeal Cert.KernelIdeal.Gen

open Idealize.ShloMosaic
open Idealize.ShloMosaic.TcCoe

/-- The factor of the scores. -/
abbrev scale : EReal := Ideal.ofBits .f32 0x3DB504F3#32

/-- Row `64 b + i` of the queries, and the place of the `k`-th key of block `b` among a device's keys. -/
abbrev qrow (b : Fin 4) (i : Fin 64) : Fin 256 := ⟨64 * b.val + i.val, by omega⟩
abbrev hcol (h : Fin 8) (d : Fin 128) : Fin 1024 := ⟨h.val * 128 + d.val, by omega⟩
abbrev kpos (b : Fin 4) (k : Fin 1024) : Fin 4096 := ⟨(k.val / 64) * 256 + b.val * 64 + k.val % 64, by omega⟩

section
variable (x : Vec Ideal S1x256x1024 .f32) (wq : Vec Ideal S1024x1024 .f32) (K V : Vec Ideal S1x4096x8x128 .f32)

def qAt (i : Fin 256) (h : Fin 8) (d : Fin 128) : EReal := ∑ e : Fin 1024, x (ix3 0 i e) * wq (ix2 e (hcol h d))

def sAt (b : Fin 4) (i : Fin 64) (h : Fin 8) (k : Fin 1024) : EReal :=
  (∑ d : Fin 128, qAt x wq (qrow b i) h d * K (ix4 0 (kpos b k) h d)) * scale

theorem pay2_apply (i : Fin 256) (n : Fin 1024) : k0_pay2 (F := Ideal) x wq (ix2 i n) = ∑ e : Fin 1024, x (ix3 0 i e) * wq (ix2 e n) := by
  pointwise [k0_pay2]

theorem queriesOf_apply (q : FVec Ideal S256x1024 .f32) (b : Fin 4) (h : Fin 8) (i : Fin 64) (d : Fin 128) :
    headQ h (queriesOf b q) (ix2 i d) = q (ix2 (qrow b i) (hcol h d)) := by
  pointwise [headQ, queriesOf]

theorem keysOf_apply (q : FVec Ideal S16x4x64x8x128 .bf16) (b : Fin 4) (h : Fin 8) (k : Fin 1024) (d : Fin 128) :
    headK h (keysOf b q) (ix2 k d) = q (ix5 ⟨k.val / 64, by omega⟩ b ⟨k.val % 64, by omega⟩ h d) := by
  pointwise [headK, keysOf]

theorem pay3_apply (g : Fin 16) (b : Fin 4) (k : Fin 64) (h : Fin 8) (d : Fin 128) :
    k0_pay3 (F := Ideal) K (ix5 g b k h d) = K (ix4 0 ⟨g.val * 256 + b.val * 64 + k.val, by omega⟩ h d) := by
  pointwise [k0_pay3]
theorem pay4_apply (g : Fin 16) (b : Fin 4) (k : Fin 64) (h : Fin 8) (d : Fin 128) :
    k0_pay4 (F := Ideal) K (ix5 g b k h d) = K (ix4 0 ⟨g.val * 256 + b.val * 64 + k.val, by omega⟩ h d) := by
  pointwise [k0_pay4]

theorem score_apply (q : FVec Ideal S64x128 .bf16) (k : FVec Ideal S1024x128 .bf16) (i : Fin 64) (j : Fin 1024) :
    score (F := Ideal) q k (ix2 i j) = (∑ d : Fin 128, q (ix2 i d) * k (ix2 j d)) * scale := by
  pointwise [score]

theorem smax_apply (s : FVec Ideal S64x1024 .f32) (i : Fin 64) : smax (F := Ideal) s (ix1 i) = Finset.univ.fold max ⊥ fun k : Fin 1024 => s (ix2 i k) := by
  pointwise [smax]
  rw [show Ideal.ofBits FTy.f32 4286578688#32 = ⊥ from word_bot]
theorem wexp_apply (s : FVec Ideal S64x1024 .f32) (i : Fin 64) (k : Fin 1024) : wexp (F := Ideal) s (ix2 i k) = Ideal.exp (s (ix2 i k) - smax (F := Ideal) s (ix1 i)) := by
  pointwise [wexp]
theorem wsum_apply (s : FVec Ideal S64x1024 .f32) (i : Fin 64) : wsum (F := Ideal) s (ix1 i) = ∑ k : Fin 1024, wexp (F := Ideal) s (ix2 i k) := by
  pointwise [wsum]
theorem wctx_apply (s : FVec Ideal S64x1024 .f32) (v : FVec Ideal S1024x128 .bf16) (i : Fin 64) (d : Fin 128) :
    wctx (F := Ideal) s v (ix2 i d) = ∑ k : Fin 1024, wexp (F := Ideal) s (ix2 i k) * v (ix2 k d) := by
  pointwise [wctx]

theorem stack2_apply (f : Fin 8 → FVec Ideal S64 .f32) (h : Fin 8) (i : Fin 64) : stack2 f (ix2 h i) = f h (ix1 i) := by
  pointwise [stack2]
  fin_vals h with hk
  all_goals simp only [hk, Nat.reduceSub, Nat.reduceLT, ↓reduceDIte]
  all_goals exact congrArg (fun h' => f h' (ix1 i)) (Fin.ext hk.symm)
theorem stack3_apply (f : Fin 8 → FVec Ideal S64x128 .f32) (h : Fin 8) (i : Fin 64) (d : Fin 128) : stack3 f (ix3 h i d) = f h (ix2 i d) := by
  pointwise [stack3]
  fin_vals h with hk
  all_goals simp only [hk, Nat.reduceSub, Nat.reduceLT, ↓reduceDIte]
  all_goals exact congrArg (fun h' => f h' (ix2 i d)) (Fin.ext hk.symm)
theorem row2_apply (f : Fin 4 → FVec Ideal S8x64 .f32) (h : Fin 8) (b : Fin 4) (i : Fin 64) : row2 f (ix2 h (qrow b i)) = f b (ix2 h i) := by
  pointwise [row2]
  have e : ∀ (c : Fin 4) (n : ℕ) (hn : n < 64), c = b → n = i.val → f c (ix2 h ⟨n, hn⟩) = f b (ix2 h i) := by
    rintro c n hn rfl rfl; rfl
  fin_vals b with hk
  all_goals simp only [hk]
  all_goals split_ifs <;> first | (exfalso; omega) | exact e _ _ _ (Fin.ext hk.symm) (by omega)
theorem row3_apply (f : Fin 4 → FVec Ideal S8x64x128 .f32) (h : Fin 8) (b : Fin 4) (i : Fin 64) (d : Fin 128) : row3 f (ix3 h (qrow b i) d) = f b (ix3 h i d) := by
  pointwise [row3]
  have e : ∀ (c : Fin 4) (n : ℕ) (hn : n < 64), c = b → n = i.val → f c (ix3 h ⟨n, hn⟩ d) = f b (ix3 h i d) := by
    rintro c n hn rfl rfl; rfl
  fin_vals b with hk
  all_goals simp only [hk]
  all_goals split_ifs <;> first | (exfalso; omega) | exact e _ _ _ (Fin.ext hk.symm) (by omega)
end

end Cert.Exchange

end
-- ==== Proof.Merge.lean ====
/-
The merges along the cube over the extended reals: after `n` of them a device holds the partials of the keys of all
the devices that share its number without the last `n` binary places.
-/
module

public import proofs.«01_k».proof.Proof.Body
public import proofs.«01_k».proof.Proof.Partial
public import Idealize.ShloMosaic.Lib.Pointwise

@[expose] public section

set_option maxRecDepth 16384

noncomputable section

namespace Cert.Exchange

open Cert.KernelIdeal Cert.KernelIdeal.Gen

open Idealize.ShloMosaic
open Idealize.ShloMosaic.TcCoe

section
variable (cx cy : CtxV Ideal) (X Y : StV Ideal) (h : Fin 8) (r : Fin 256) (d : Fin 128)

theorem mrgM_apply : mrgM X Y (ix2 h r) = max (X (ix3 0 h r)) (Y (ix3 0 h r)) := rfl
theorem mrgA_apply : mrgA X Y (ix2 h r) = Ideal.exp (X (ix3 0 h r) - max (X (ix3 0 h r)) (Y (ix3 0 h r))) := rfl
theorem mrgB_apply : mrgB X Y (ix2 h r) = Ideal.exp (Y (ix3 0 h r) - max (X (ix3 0 h r)) (Y (ix3 0 h r))) := rfl
theorem mrgL_apply : mrgL X Y (ix2 h r) = X (ix3 1 h r) * mrgA X Y (ix2 h r) + Y (ix3 1 h r) * mrgB X Y (ix2 h r) := rfl
theorem overD_apply (a : FVec Ideal S8x256 .f32) : overD a (ix3 h r d) = a (ix2 h r) := by pointwise [overD]
theorem mrgX_apply : mrgX cx cy X Y (ix3 h r d) = cx (ix3 h r d) * mrgA X Y (ix2 h r) + cy (ix3 h r d) * mrgB X Y (ix2 h r) := by
  pointwise [mrgX]
  rw [overD_apply, overD_apply]
theorem mrgC_apply : mrgC cx cy X Y (ix3 h r d) = mrgX cx cy X Y (ix3 h r d) := by
  unfold mrgC
  pointwise [k0_pay224]
theorem mrgS_zero : mrgS X Y (ix3 0 h r) = mrgM X Y (ix2 h r) := rfl
theorem mrgS_one : mrgS X Y (ix3 1 h r) = mrgL X Y (ix2 h r) := rfl

theorem lastOut_apply (w : Vec Ideal S1024x1024 .f32) (n : Fin 1024) :
    lastOut cx cy X Y w (ix3 0 r n) = ∑ t : Fin 1024,
      Ideal.div (mrgX cx cy X Y (ix3 ⟨t.val / 128, by omega⟩ r ⟨t.val % 128, by omega⟩)) (mrgL X Y (ix2 ⟨t.val / 128, by omega⟩ r)) * w (ix2 t n) := by
  pointwise [lastOut]
  refine Finset.sum_congr rfl fun t _ => ?_
  rw [overD_apply]
end

/-- The keys that device `c` accounts for after `n` merges. -/
def keys (n : ℕ) (c : Dev nD) : Finset (Dev nD × Fin 1024) := Finset.univ.filter fun p => p.1.val / 2 ^ n = c.val / 2 ^ n

theorem half_iff : ∀ (n : Fin 4) (c d : Dev nD),
    d.val / 2 ^ (n.val + 1) = c.val / 2 ^ (n.val + 1) ↔ (d.val / 2 ^ n.val = c.val / 2 ^ n.val ∨ d.val / 2 ^ n.val = (nb n c).val / 2 ^ n.val) := by
  decide
theorem half_ne : ∀ (n : Fin 4) (c : Dev nD), c.val / 2 ^ n.val ≠ (nb n c).val / 2 ^ n.val := by decide

theorem keys_succ (n : Fin 4) (c : Dev nD) : keys (n.val + 1) c = keys n.val c ∪ keys n.val (nb n c) := by
  ext p
  simp only [keys, Finset.mem_union, Finset.mem_filter, Finset.mem_univ, true_and]
  exact half_iff n c p.1
theorem keys_disjoint (n : Fin 4) (c : Dev nD) : Disjoint (keys n.val c) (keys n.val (nb n c)) := by
  refine Finset.disjoint_left.2 fun p hp hq => half_ne n c ?_
  simp only [keys, Finset.mem_filter, Finset.mem_univ, true_and] at hp hq
  exact hp.symm.trans hq
theorem keys_all (c : Dev nD) : keys 4 c = Finset.univ := by
  ext p
  simp only [keys, Finset.mem_filter, Finset.mem_univ, true_and, iff_true]
  have h1 : p.1.val < 16 := p.1.isLt
  have h2 : c.val < 16 := c.isLt
  omega

section
variable (C0 : Dev nD → CtxV Ideal) (S0 : Dev nD → StV Ideal) (s : Dev nD × Fin 1024 → ℝ) (v : Dev nD × Fin 1024 → EReal)
  (h : Fin 8) (r : Fin 256) (d : Fin 128)

/-- The two sides of a merge. -/
theorem part_merge {A B : Finset (Dev nD × Fin 1024)} (hd : Disjoint A B) (cx cy : CtxV Ideal) (X Y : StV Ideal)
    (hx : Part s v A (X (ix3 0 h r)) (X (ix3 1 h r)) (cx (ix3 h r d))) (hy : Part s v B (Y (ix3 0 h r)) (Y (ix3 1 h r)) (cy (ix3 h r d))) :
    Part s v (A ∪ B) (mrgM X Y (ix2 h r)) (mrgL X Y (ix2 h r)) (mrgX cx cy X Y (ix3 h r d)) := by
  rw [mrgX_apply, mrgL_apply, mrgM_apply, mrgA_apply, mrgB_apply]
  exact Part.merge s v hd hx hy

/-- The partials that every device holds, merge by merge. -/
theorem stAt_part (h0 : ∀ c, Part s v (keys 0 c) (S0 c (ix3 0 h r)) (S0 c (ix3 1 h r)) (C0 c (ix3 h r d))) :
    ∀ n : ℕ, n ≤ 4 → ∀ c, Part s v (keys n c) ((stAt C0 S0 n c).2 (ix3 0 h r)) ((stAt C0 S0 n c).2 (ix3 1 h r)) ((stAt C0 S0 n c).1 (ix3 h r d)) := by
  intro n
  induction n with
  | zero => exact fun _ => h0
  | succ n ih =>
    intro hn c
    have e : (Fin.ofNat 4 n).val = n := Nat.mod_eq_of_lt (by omega)
    have hk := keys_succ (Fin.ofNat 4 n) c
    have hd := keys_disjoint (Fin.ofNat 4 n) c
    rw [e] at hk hd
    rw [hk]
    have := part_merge s v h r d hd _ _ _ _ (ih (by omega) c) (ih (by omega) (nb (Fin.ofNat 4 n) c))
    show Part s v _ (mrgS (F := Ideal) _ _ (ix3 0 h r)) (mrgS (F := Ideal) _ _ (ix3 1 h r)) (mrgC (F := Ideal) _ _ _ _ (ix3 h r d))
    rw [mrgC_apply, mrgS_zero, mrgS_one]
    exact this
end

end Cert.Exchange

end
-- ==== Proof.Own.lean ====
/-
What a device computes over the extended reals from finite scores: its own partials, and the output that the four
merges lead to, which is the same on every device.
-/
module

public import proofs.«01_k».proof.Proof.Local
public import proofs.«01_k».proof.Proof.Merge

@[expose] public section

set_option maxRecDepth 16384

noncomputable section

namespace Cert.Exchange

open Cert.KernelIdeal Cert.KernelIdeal.Gen

open Idealize.ShloMosaic
open Idealize.ShloMosaic.TcCoe

/-! ## Partials -/

/-- Partials carried along an injection of the keys. -/
theorem Part.map {ι κ : Type} (f : κ ↪ ι) (s : ι → ℝ) (v : ι → EReal) {A : Finset κ} {m l c : EReal}
    (h : Part (fun k => s (f k)) (fun k => v (f k)) A m l c) : Part s v (A.map f) m l c := by
  obtain ⟨μ, rfl, hle, ⟨p, hp, hpe⟩, rfl, rfl⟩ := h
  refine ⟨μ, rfl, fun q hq => ?_, ⟨f p, Finset.mem_map_of_mem f hp, hpe⟩, ?_, ?_⟩
  · obtain ⟨k, hk, rfl⟩ := Finset.mem_map.1 hq
    exact hle k hk
  · rw [Finset.sum_map]
  · rw [Finset.sum_map]

/-- The partials of a set of keys are determined by it. -/
theorem Part.unique {ι : Type} (s : ι → ℝ) (v : ι → EReal) {A : Finset ι} {m l c m' l' c' : EReal}
    (h : Part s v A m l c) (h' : Part s v A m' l' c') : m = m' ∧ l = l' ∧ c = c' := by
  obtain ⟨μ, rfl, hle, ⟨p, hp, hpe⟩, rfl, rfl⟩ := h
  obtain ⟨ν, rfl, hle', ⟨q, hq, hqe⟩, rfl, rfl⟩ := h'
  obtain rfl : μ = ν := le_antisymm (hpe ▸ hle' p hp) (hqe ▸ hle q hq)
  exact ⟨rfl, rfl, rfl⟩

def keyOf (c : Dev nD) : Fin 1024 ↪ Dev nD × Fin 1024 := ⟨fun k => (c, k), fun _ _ h => (Prod.mk.inj h).2⟩

theorem keys_zero (c : Dev nD) : keys 0 c = Finset.univ.map (keyOf c) := by
  ext ⟨d, k⟩
  simp only [keys, Finset.mem_filter, Finset.mem_univ, true_and, pow_zero, Nat.div_one, Finset.mem_map]
  constructor
  · intro h
    exact ⟨k, by rw [show d = c from Fin.ext h]; rfl⟩
  · rintro ⟨k', e⟩
    rw [← (Prod.mk.inj e).1]

/-! ## A device's own partials -/

section
variable (x : Vec Ideal S1x256x1024 .f32) (wq : Vec Ideal S1024x1024 .f32) (K V : Dev nD → Vec Ideal S1x4096x8x128 .f32)

theorem scores_apply (Kc : Vec Ideal S1x4096x8x128 .f32) (b : Fin 4) (h : Fin 8) (i : Fin 64) (k : Fin 1024) :
    scores (F := Ideal) x wq Kc b h (ix2 i k) = sAt x wq Kc b i h k := by
  unfold scores sAt qAt
  rw [score_apply]
  refine congrArg (· * scale) (Finset.sum_congr rfl fun d _ => ?_)
  rw [queriesOf_apply, keysOf_apply, pay2_apply, pay3_apply]

/-- The keys' scores for one row and head, and their values in one column, over all devices. -/
def sG (b : Fin 4) (i : Fin 64) (h : Fin 8) (p : Dev nD × Fin 1024) : ℝ := (sAt x wq (K p.1) b i h p.2).toReal
def vG (b : Fin 4) (h : Fin 8) (d : Fin 128) (p : Dev nD × Fin 1024) : EReal := V p.1 (ix4 0 (kpos b p.2) h d)

def st0G (c : Dev nD) : StV Ideal := pairS (locM x wq (K c)) (locL x wq (K c))
def ctx0G (c : Dev nD) : CtxV Ideal :=
  shapeCast S8x256x128 (truncf .bf16 (locC x wq (K c) (V c)) bitsLt_bf16_f32) shapeCasts_S8x256x128_S8x256x128

variable (hfin : ∀ c b i h k, ∃ r : ℝ, sAt x wq (K c) b i h k = (r : EReal))
include hfin

theorem sG_coe (b : Fin 4) (i : Fin 64) (h : Fin 8) (p : Dev nD × Fin 1024) :
    ((sG x wq K b i h p : ℝ) : EReal) = sAt x wq (K p.1) b i h p.2 := by
  obtain ⟨r, hr⟩ := hfin p.1 b i h p.2
  unfold sG
  rw [hr, EReal.toReal_coe]

theorem own_part (c : Dev nD) (b : Fin 4) (i : Fin 64) (h : Fin 8) (d : Fin 128) :
    Part (sG x wq K b i h) (vG V b h d) (keys 0 c) (st0G x wq K c (ix3 0 h (qrow b i))) (st0G x wq K c (ix3 1 h (qrow b i)))
      (ctx0G x wq K V c (ix3 h (qrow b i) d)) := by
  rw [keys_zero]
  refine Part.map (keyOf c) _ _ ?_
  have em : st0G x wq K c (ix3 0 h (qrow b i)) = Finset.univ.fold max ⊥ fun k : Fin 1024 => ((sG x wq K b i h (keyOf c k) : ℝ) : EReal) := by
    show locM x wq (K c) (ix2 h (qrow b i)) = _
    unfold locM
    rw [row2_apply, stack2_apply, smax_apply]
    refine congrArg (Finset.univ.fold max ⊥) (funext fun k => ?_)
    rw [scores_apply]; exact (sG_coe x wq K hfin b i h (c, k)).symm
  have ew : ∀ k : Fin 1024, wexp (F := Ideal) (scores x wq (K c) b h) (ix2 i k)
      = Ideal.exp (((sG x wq K b i h (keyOf c k) : ℝ) : EReal) - Finset.univ.fold max ⊥ fun k : Fin 1024 => ((sG x wq K b i h (keyOf c k) : ℝ) : EReal)) := fun k => by
    rw [wexp_apply, smax_apply, scores_apply]
    refine congrArg Ideal.exp (congr (congrArg _ (sG_coe x wq K hfin b i h (c, k)).symm) (congrArg (Finset.univ.fold max ⊥) (funext fun k => ?_)))
    rw [scores_apply]; exact (sG_coe x wq K hfin b i h (c, k)).symm
  have el : st0G x wq K c (ix3 1 h (qrow b i)) = ∑ k : Fin 1024, wexp (F := Ideal) (scores x wq (K c) b h) (ix2 i k) := by
    show locL x wq (K c) (ix2 h (qrow b i)) = _
    unfold locL
    rw [row2_apply, stack2_apply, wsum_apply]
  have ec : ctx0G x wq K V c (ix3 h (qrow b i) d) = ∑ k : Fin 1024, wexp (F := Ideal) (scores x wq (K c) b h) (ix2 i k) * vG V b h d (keyOf c k) := by
    have e0 : ctx0G x wq K V c = locC x wq (K c) (V c) := by unfold ctx0G; rw [shapeCast_self]; rfl
    rw [e0]
    unfold locC
    rw [row3_apply, stack3_apply, wctx_apply]
    refine Finset.sum_congr rfl fun k _ => ?_
    rw [keysOf_apply, pay4_apply]; rfl
  rw [em, el, ec]
  simp only [ew]
  exact Part.own _ _ _ ⟨0, Finset.mem_univ _⟩

/-! ## The output -/

/-- The partials of all keys, as the last merge computes them on device `c`. -/
theorem all_part (c : Dev nD) (b : Fin 4) (i : Fin 64) (h : Fin 8) (d : Fin 128) :
    Part (sG x wq K b i h) (vG V b h d) Finset.univ
      (mrgM (stAt (ctx0G x wq K V) (st0G x wq K) 3 c).2 (stAt (ctx0G x wq K V) (st0G x wq K) 3 (nb 3 c)).2 (ix2 h (qrow b i)))
      (mrgL (stAt (ctx0G x wq K V) (st0G x wq K) 3 c).2 (stAt (ctx0G x wq K V) (st0G x wq K) 3 (nb 3 c)).2 (ix2 h (qrow b i)))
      (mrgX (stAt (ctx0G x wq K V) (st0G x wq K) 3 c).1 (stAt (ctx0G x wq K V) (st0G x wq K) 3 (nb 3 c)).1
        (stAt (ctx0G x wq K V) (st0G x wq K) 3 c).2 (stAt (ctx0G x wq K V) (st0G x wq K) 3 (nb 3 c)).2 (ix3 h (qrow b i) d)) := by
  rw [show (Finset.univ : Finset (Dev nD × Fin 1024)) = keys 3 c ∪ keys 3 (nb 3 c) from (keys_all c).symm.trans (keys_succ 3 c)]
  have hp := stAt_part (ctx0G x wq K V) (st0G x wq K) (sG x wq K b i h) (vG V b h d) h (qrow b i) d
    (fun c => own_part x wq K V hfin c b i h d) 3 (by decide)
  exact part_merge _ _ _ _ _ (keys_disjoint 3 c) _ _ _ _ (hp c) (hp (nb 3 c))

/-- What a device writes at row `r`: the product of the quotients with the last weights. -/
theorem out_eq (wo : Vec Ideal S1024x1024 .f32) (C : Fin 4 → Fin 64 → Fin 8 → Fin 128 → EReal)
    (hC : ∀ b i h d, ∃ m l c', Part (sG x wq K b i h) (vG V b h d) Finset.univ m l c' ∧ C b i h d = Ideal.div c' l)
    (c : Dev nD) (b : Fin 4) (i : Fin 64) (n : Fin 1024) :
    lastOut (stAt (ctx0G x wq K V) (st0G x wq K) 3 c).1 (stAt (ctx0G x wq K V) (st0G x wq K) 3 (nb 3 c)).1
        (stAt (ctx0G x wq K V) (st0G x wq K) 3 c).2 (stAt (ctx0G x wq K V) (st0G x wq K) 3 (nb 3 c)).2 wo (ix3 0 (qrow b i) n)
      = ∑ t : Fin 1024, C b i ⟨t.val / 128, by omega⟩ ⟨t.val % 128, by omega⟩ * wo (ix2 t n) := by
  rw [lastOut_apply]
  refine Finset.sum_congr rfl fun t _ => congrArg (· * _) ?_
  obtain ⟨m, l, c', hP, e⟩ := hC b i ⟨t.val / 128, by omega⟩ ⟨t.val % 128, by omega⟩
  obtain ⟨-, el, ec⟩ := Part.unique _ _ (all_part x wq K V hfin c b i ⟨t.val / 128, by omega⟩ ⟨t.val % 128, by omega⟩) hP
  rw [e, el, ec]
end

end Cert.Exchange

end
-- ==== Proof.RefOps.lean ====
/-
The reference's operations by name, and its mask read at an index.
-/
module

public import proofs.«01_k».proof.Proof.Gen.ReferenceIdeal.Run
public import proofs.«01_k».proof.Proof.Words
public import Idealize.ShloMosaic.Lib.Pointwise
public import Idealize.ShloMosaic.Lib.Routing.Words
public import Idealize.ShloMosaic.Lib.Routing.OpsOrder

@[expose] public section

set_option maxRecDepth 16384

noncomputable section

namespace Cert.Exchange.Ref

open Cert.ReferenceIdeal Cert.ReferenceIdeal.Gen Cert.Exchange
open Idealize.ShloMosaic
open Idealize.ShloMosaic.TcCoe
open Idealize.ShloMosaic.Routing (pyDiv pyRem pyDiv_ap pyRem_ap)

/-! ## The mask -/

def qblk : IVec S256 32 := pyDiv bcast_S_S256 (iotaInDim S256 32 0) (id (constantI S_ 32 64#32))
def kblk : IVec S65536 32 := pyDiv bcast_S_S65536 (iotaInDim S65536 32 0) (id (constantI S_ 32 64#32))
def qcol : IVec S256x1 32 := broadcastInDim S256x1 ![0] bcast_S256_S256x1_0 qblk
def krow : IVec S1x65536 32 := broadcastInDim S1x65536 ![1] bcast_S65536_S1x65536_1 kblk
def qrem : IVec S256x1 32 := pyRem bcast_S_S256x1 qcol (id (constantI S_ 32 4#32))
def krem : IVec S1x65536 32 := pyRem bcast_S_S1x65536 krow (id (constantI S_ 32 4#32))
def mask : IVec S256x65536 1 :=
  ori (cmpi .eq (broadcastInDim S256x65536 ![0, 1] bcast_S256x1_S256x65536_0_1 qcol) (broadcastInDim S256x65536 ![0, 1] bcast_S1x65536_S256x65536_0_1 krow))
    (cmpi .eq (broadcastInDim S256x65536 ![0, 1] bcast_S1x65536_S256x65536_0_1 krem) (broadcastInDim S256x65536 ![0, 1] bcast_S256x1_S256x65536_0_1 qrem))
def keep : IVec S256 1 := Host.reduce IntOp.ori mask (constantI S_ 1 0#1) reducesTo_S256x65536_S256_d1 h_S_

theorem qblk_apply (r : Fin 256) : qblk (ix1 r) = BitVec.ofNat 32 (r.val / 64) :=
  pyDiv_ap _ _ _ _ rfl rfl (by omega) (by decide) (by decide)
theorem kblk_apply (j : Fin 65536) : kblk (ix1 j) = BitVec.ofNat 32 (j.val / 64) :=
  pyDiv_ap _ _ _ _ rfl rfl (by omega) (by decide) (by decide)
theorem qcol_apply (r : Fin 256) (z : Fin 1) : qcol (ix2 r z) = BitVec.ofNat 32 (r.val / 64) := by
  pointwise [qcol]
  exact qblk_apply r
theorem krow_apply (z : Fin 1) (j : Fin 65536) : krow (ix2 z j) = BitVec.ofNat 32 (j.val / 64) := by
  pointwise [krow]
  exact kblk_apply j
theorem qrem_apply (r : Fin 256) (z : Fin 1) : qrem (ix2 r z) = BitVec.ofNat 32 (r.val / 64 % 4) :=
  pyRem_ap _ _ _ _ (qcol_apply r z) rfl (by omega) (by decide) (by decide)
theorem krem_apply (z : Fin 1) (j : Fin 65536) : krem (ix2 z j) = BitVec.ofNat 32 (j.val / 64 % 4) :=
  pyRem_ap _ _ _ _ (krow_apply z j) rfl (by omega) (by decide) (by decide)

theorem word_eq {a b : ℕ} (ha : a < 2 ^ 31) (hb : b < 2 ^ 31) :
    IntOp.cmpi .eq (BitVec.ofNat 32 a) (BitVec.ofNat 32 b) = 1#1 ↔ a = b := by
  rw [Idealize.ShloMosaic.WordCmp.cmpi_eq_ofNat (w := 32) (by omega) (by omega)]
  by_cases h : a = b <;> simp [h]

/-- A row sees the keys whose block number ends in the row's block. -/
theorem mask_iff (r : Fin 256) (j : Fin 65536) : mask (ix2 r j) = 1#1 ↔ j.val / 64 % 4 = r.val / 64 := by
  have e : mask (ix2 r j) = IntOp.ori (IntOp.cmpi .eq (BitVec.ofNat 32 (r.val / 64)) (BitVec.ofNat 32 (j.val / 64)))
      (IntOp.cmpi .eq (BitVec.ofNat 32 (j.val / 64 % 4)) (BitVec.ofNat 32 (r.val / 64 % 4))) := by
    pointwise [mask]
    rw [qcol_apply, krow_apply, qrem_apply, krem_apply]
  have h1 := word_eq (a := r.val / 64) (b := j.val / 64) (by omega) (by omega)
  have h2 := word_eq (a := j.val / 64 % 4) (b := r.val / 64 % 4) (by omega) (by omega)
  rw [e]
  generalize IntOp.cmpi .eq (BitVec.ofNat 32 (r.val / 64)) (BitVec.ofNat 32 (j.val / 64)) = p at h1 ⊢
  generalize IntOp.cmpi .eq (BitVec.ofNat 32 (j.val / 64 % 4)) (BitVec.ofNat 32 (r.val / 64 % 4)) = q at h2 ⊢
  rw [(by decide : ∀ p q : BitVec 1, IntOp.ori p q = 1#1 ↔ (p = 1#1 ∨ q = 1#1)) p q, h1, h2]
  omega

/-- Every row sees a key. -/
theorem keep_apply (r : Fin 256) : keep (ix1 r) = 1#1 := by
  pointwise [keep]
  refine (Idealize.ShloMosaic.Routing.fold_ori _ _).2 ⟨(⟨r.val, by omega⟩ : Fin 65536), Finset.mem_univ _, ?_⟩
  rw [mask_iff]
  show r.val / 64 % 4 = r.val / 64
  omega

/-! ## The scores, the weights and the output -/

section
variable {F : FTy → Type} [FloatOps F]
variable (x : FVec F S1x256x1024 .f32) (wq : FVec F S1024x1024 .f32) (K V : FVec F S1x65536x8x128 .f32) (wo : FVec F S1024x1024 .f32)

def query : FVec F S1x256x8x128 .f32 :=
  shapeCast _ (Host.dotGeneral dot_S1x256x1024_S1024x1024_S1x256x1024_2_0_01_1_n_n none x wq) shapeCasts_S1x256x1024_S1x256x8x128
def score : FVec F S1x8x256x65536 .f32 :=
  mulf (Host.dotGeneral dot_S1x256x8x128_S1x65536x8x128_S1x8x256x65536_3_3_1_1_02_02 none (query x wq) K)
    (broadcastInDim S1x8x256x65536 ![] bcast_S_S1x8x256x65536 (constant S_ .f32 0x3DB504F3#32))
def seen : FVec F S1x8x256x65536 .f32 :=
  select (broadcastInDim S1x8x256x65536 ![0, 1, 2, 3] bcast_S1x1x256x65536_S1x8x256x65536_0_1_2_3 (broadcastInDim S1x1x256x65536 ![2, 3] bcast_S256x65536_S1x1x256x65536_2_3 mask))
    (score x wq K) (broadcastInDim S1x8x256x65536 ![] bcast_S_S1x8x256x65536 (id (constant S_ .f32 0xFF800000#32)))
def top : FVec F S1x8x256 .f32 :=
  Host.reduce FloatOps.maximumf (seen x wq K) (constant S_ .f32 0xFF800000#32) reducesTo_S1x8x256x65536_S1x8x256_d3 h_S_
def expo : FVec F S1x8x256x65536 .f32 :=
  Host.exp (subf (seen x wq K) (broadcastInDim S1x8x256x65536 ![0, 1, 2, 3] bcast_S1x8x256x1_S1x8x256x65536_0_1_2_3 (broadcastInDim S1x8x256x1 ![0, 1, 2] bcast_S1x8x256_S1x8x256x1_0_1_2 (top x wq K))))
def total : FVec F S1x8x256 .f32 := Host.reduceAdd (expo x wq K) (constant S_ .f32 0x00000000#32) reducesTo_S1x8x256x65536_S1x8x256_d3 h_S_
def divisor : FVec F S1x8x256x1 .f32 :=
  select (broadcastInDim S1x8x256x1 ![0, 1, 2, 3] bcast_S1x1x256x1_S1x8x256x1_0_1_2_3 (broadcastInDim S1x1x256x1 ![2] bcast_S256_S1x1x256x1_2 keep))
    (broadcastInDim S1x8x256x1 ![0, 1, 2] bcast_S1x8x256_S1x8x256x1_0_1_2 (total x wq K))
    (broadcastInDim S1x8x256x1 ![] bcast_S_S1x8x256x1 (id (constant S_ .f32 0x3F800000#32)))
def quot (k : IVec S256 1) (e : FVec F S1x8x256x65536 .f32) (d : FVec F S1x8x256x1 .f32) : FVec F S1x8x256x65536 .f32 :=
  select (broadcastInDim S1x8x256x65536 ![0, 1, 2, 3] bcast_S1x1x256x1_S1x8x256x65536_0_1_2_3 (broadcastInDim S1x1x256x1 ![2] bcast_S256_S1x1x256x1_2 k))
    (Host.divf e (broadcastInDim S1x8x256x65536 ![0, 1, 2, 3] bcast_S1x8x256x1_S1x8x256x65536_0_1_2_3 d))
    (broadcastInDim S1x8x256x65536 ![] bcast_S_S1x8x256x65536 (id (constant S_ .f32 0x00000000#32)))
def weight : FVec F S1x8x256x65536 .f32 := quot keep (expo x wq K) (divisor x wq K)
def context : FVec F S1x8x128x256 .f32 := Host.dotGeneral dot_S1x65536x8x128_S1x8x256x65536_S1x8x128x256_1_3_3_2_02_01 none V (weight x wq K)
def rows : FVec F S1x256x1024 .f32 :=
  shapeCast _ (transpose S1x256x8x128 [0, 3, 1, 2] (context x wq K V) transposes_S1x8x128x256_S1x256x8x128_0_3_1_2) shapeCasts_S1x256x8x128_S1x256x1024
def out : FVec F S1x256x1024 .f32 :=
  Host.dotGeneral dot_S1x256x1024_S1024x1024_S1x256x1024_2_0_01_1_n_n none (rows x wq K V) wo
end

theorem res_eq {F : FTy → Type} [FloatOps F] (m : (ℓ : Loc nD τ sig) → Buf (Elt F) ℓ) (c : Dev nD) :
    Value.res_main_v39 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.Exchange.Ref

end
-- ==== Proof.RefAt.lean ====
/-
The reference's operations over the extended reals, read at an index.
-/
module

public import proofs.«01_k».proof.Proof.RefOps
public import proofs.«01_k».proof.Proof.Words
public import Idealize.ShloMosaic.Lib.Pointwise

@[expose] public section

set_option maxRecDepth 16384

noncomputable section

namespace Cert.Exchange.Ref

open Cert.ReferenceIdeal Cert.ReferenceIdeal.Gen Cert.Exchange
open Idealize.ShloMosaic
open Idealize.ShloMosaic.TcCoe

section
variable (x : FVec Ideal S1x256x1024 .f32) (wq : FVec Ideal S1024x1024 .f32) (K V : FVec Ideal S1x65536x8x128 .f32) (wo : FVec Ideal S1024x1024 .f32)

theorem query_apply (r : Fin 256) (h : Fin 8) (d : Fin 128) :
    query (F := Ideal) x wq (ix4 0 r h d) = ∑ e : Fin 1024, x (ix3 0 r e) * wq (ix2 e ⟨h.val * 128 + d.val, by omega⟩) := by
  pointwise [query]
theorem score_apply (h : Fin 8) (r : Fin 256) (j : Fin 65536) :
    score (F := Ideal) x wq K (ix4 0 h r j) = (∑ d : Fin 128, query (F := Ideal) x wq (ix4 0 r h d) * K (ix4 0 j h d)) * Ideal.ofBits .f32 0x3DB504F3#32 := by
  pointwise [score]
theorem seen_apply (h : Fin 8) (r : Fin 256) (j : Fin 65536) :
    seen (F := Ideal) x wq K (ix4 0 h r j) = Scalar.select (mask (ix2 r j)) (score (F := Ideal) x wq K (ix4 0 h r j)) ⊥ := by
  pointwise [seen]
  show Scalar.select _ _ (Ideal.ofBits FTy.f32 4286578688#32) = _
  rw [show Ideal.ofBits FTy.f32 4286578688#32 = ⊥ from word_bot]
theorem top_apply (h : Fin 8) (r : Fin 256) :
    top (F := Ideal) x wq K (ix3 0 h r) = Finset.univ.fold max ⊥ fun j : Fin 65536 => seen (F := Ideal) x wq K (ix4 0 h r j) := by
  pointwise [top]
  rw [show Ideal.ofBits FTy.f32 4286578688#32 = ⊥ from word_bot]
theorem expo_apply (h : Fin 8) (r : Fin 256) (j : Fin 65536) :
    expo (F := Ideal) x wq K (ix4 0 h r j) = Ideal.exp (seen (F := Ideal) x wq K (ix4 0 h r j) - top (F := Ideal) x wq K (ix3 0 h r)) := by
  pointwise [expo]
theorem total_apply (h : Fin 8) (r : Fin 256) :
    total (F := Ideal) x wq K (ix3 0 h r) = ∑ j : Fin 65536, expo (F := Ideal) x wq K (ix4 0 h r j) := by
  pointwise [total]
theorem divisor_apply (h : Fin 8) (r : Fin 256) (z : Fin 1) :
    divisor (F := Ideal) x wq K (ix4 0 h r z) = total (F := Ideal) x wq K (ix3 0 h r) := by
  pointwise [divisor]
  rw [keep_apply]; exact Idealize.ShloMosaic.ValueIdx.select_one _ _
theorem quot_apply (k : IVec S256 1) (e : FVec Ideal S1x8x256x65536 .f32) (d : FVec Ideal S1x8x256x1 .f32) (h : Fin 8) (r : Fin 256) (j : Fin 65536)
    (hk : k (ix1 r) = 1#1) : quot (F := Ideal) k e d (ix4 0 h r j) = Ideal.div (e (ix4 0 h r j)) (d (ix4 0 h r 0)) := by
  pointwise [quot]
  rw [hk]
  exact Idealize.ShloMosaic.ValueIdx.select_one _ _
theorem weight_apply (h : Fin 8) (r : Fin 256) (j : Fin 65536) :
    weight (F := Ideal) x wq K (ix4 0 h r j) = Ideal.div (expo (F := Ideal) x wq K (ix4 0 h r j)) (total (F := Ideal) x wq K (ix3 0 h r)) := by
  unfold weight
  rw [quot_apply _ _ _ _ _ _ (keep_apply r), divisor_apply]
theorem context_apply (h : Fin 8) (d : Fin 128) (r : Fin 256) :
    context (F := Ideal) x wq K V (ix4 0 h d r) = ∑ j : Fin 65536, V (ix4 0 j h d) * weight (F := Ideal) x wq K (ix4 0 h r j) := by
  pointwise [context]
theorem rows_apply (r : Fin 256) (t : Fin 1024) :
    rows (F := Ideal) x wq K V (ix3 0 r t) = context (F := Ideal) x wq K V (ix4 0 ⟨t.val / 128, by omega⟩ ⟨t.val % 128, by omega⟩ r) := by
  pointwise [rows]
theorem out_apply (r : Fin 256) (n : Fin 1024) :
    out (F := Ideal) x wq K V wo (ix3 0 r n) = ∑ t : Fin 1024, rows (F := Ideal) x wq K V (ix3 0 r t) * wo (ix2 t n) := by
  pointwise [out]
end

end Cert.Exchange.Ref

end
-- ==== Proof.Equal.lean ====
/-
The reference's output is the kernel's: the keys that a row sees are, device by device, those whose partials the devices
merge, and the others weigh nothing.
-/
module

public import proofs.«01_k».proof.Proof.Own
public import proofs.«01_k».proof.Proof.RefAt

@[expose] public section

set_option maxRecDepth 16384

noncomputable section

namespace Cert.Exchange

open Cert.KernelIdeal

open Idealize.ShloMosaic
open Idealize.ShloMosaic.TcCoe

/-- A softmax average over keys of which those outside a set have score `⊥`: it is the quotient of the partials of the set. -/
theorem masked_quotient {ι κ : Type} [Fintype ι] [Nonempty ι] [Fintype κ] (f : ι ↪ κ) (S V : κ → EReal) (s : ι → ℝ)
    (hS : ∀ p, S (f p) = (s p : EReal)) (h0 : ∀ j, j ∉ Finset.univ.map f → S j = ⊥) :
    ∃ m l c, Part s (fun p => V (f p)) Finset.univ m l c
      ∧ ∑ j, V j * Ideal.div (Ideal.exp (S j - Finset.univ.fold max ⊥ S)) (∑ k, Ideal.exp (S k - Finset.univ.fold max ⊥ S)) = Ideal.div c l := by
  have P := Part.own s (fun p => V (f p)) Finset.univ Finset.univ_nonempty
  refine ⟨_, _, _, P, ?_⟩
  rw [Part.quotient _ _ P]
  obtain ⟨r, hr, hl⟩ := P.sum_pos
  obtain ⟨μ, hm, hle, ⟨q, hq, hqe⟩, -, -⟩ := P
  have hM : Finset.univ.fold max ⊥ S = (μ : EReal) := by
    refine fold_max_eq _ _ _ (fun j _ => ?_) ⟨f q, Finset.mem_univ _, by rw [hS, hqe]⟩
    by_cases hj : j ∈ Finset.univ.map f
    · obtain ⟨p, hp, rfl⟩ := Finset.mem_map.1 hj
      rw [hS]; exact EReal.coe_le_coe_iff.2 (hle p hp)
    · rw [h0 j hj]; exact bot_le
  rw [hl, hM, hm]
  rw [hm] at hl
  have hz : ∀ j, j ∉ Finset.univ.map f → Ideal.exp (S j - (μ : EReal)) = 0 := fun j hj => by
    rw [h0 j hj, sub_eq_add_neg, EReal.bot_add]; rfl
  have e : ∑ k, Ideal.exp (S k - (μ : EReal)) = (r : EReal) := by
    rw [← hl, ← Finset.sum_subset (Finset.subset_univ (Finset.univ.map f)) (fun j _ hj => hz j hj), Finset.sum_map]
    exact Finset.sum_congr rfl fun p _ => by rw [hS]
  have hr0 : (r : EReal) ≠ 0 := fun h => hr.ne' (EReal.coe_eq_zero.1 h)
  rw [e, ← Finset.sum_subset (Finset.subset_univ (Finset.univ.map f)) (fun j _ hj => by rw [hz j hj, Ideal.div, if_neg hr0, zero_mul, mul_zero]), Finset.sum_map]
  exact Finset.sum_congr rfl fun p _ => by rw [hS]

/-- Where device `c`'s `k`-th key stands among all keys. -/
def keyAt (c : Dev nD) (k : Fin 4096) : Fin 65536 := ⟨4096 * c.val + k.val, by have h1 : c.val < 16 := c.isLt; omega⟩

/-- Where the `k`-th key of block `b` on device `c` stands among all keys. -/
def jOf (b : Fin 4) : Dev nD × Fin 1024 ↪ Fin 65536 :=
  ⟨fun p => keyAt p.1 (kpos b p.2), by
    rintro ⟨c, k⟩ ⟨c', k'⟩ h
    have h := congrArg Fin.val h
    simp only [keyAt, kpos] at h
    have h1 : c.val < 16 := c.isLt
    have h2 : c'.val < 16 := c'.isLt
    have h3 := k.isLt
    have h4 := k'.isLt
    have h5 := b.isLt
    refine Prod.ext (Fin.ext ?_) (Fin.ext ?_)
    · show c.val = c'.val
      omega
    · show k.val = k'.val
      omega⟩

theorem jOf_val (b : Fin 4) (c : Dev nD) (k : Fin 1024) : (jOf b (c, k)).val = 4096 * c.val + (k.val / 64 * 256 + b.val * 64 + k.val % 64) := rfl

theorem mem_jOf (b : Fin 4) (j : Fin 65536) : j ∈ Finset.univ.map (jOf b) ↔ j.val / 64 % 4 = b.val := by
  rw [Finset.mem_map]
  constructor
  · rintro ⟨⟨c, k⟩, -, rfl⟩
    rw [jOf_val]
    have h1 : c.val < 16 := c.isLt
    have h3 := k.isLt
    have h5 := b.isLt
    omega
  · intro h
    have hj := j.isLt
    have h5 := b.isLt
    refine ⟨((⟨j.val / 4096, by show _ < 16; omega⟩ : Dev nD), ⟨j.val % 4096 / 256 * 64 + j.val % 64, by omega⟩), Finset.mem_univ _, Fin.ext ?_⟩
    rw [jOf_val]
    show 4096 * (j.val / 4096) + ((j.val % 4096 / 256 * 64 + j.val % 64) / 64 * 256 + b.val * 64 + (j.val % 4096 / 256 * 64 + j.val % 64) % 64) = j.val
    omega

section
variable (x : Vec Ideal S1x256x1024 .f32) (wq wo : Vec Ideal S1024x1024 .f32) (K V : Dev nD → Vec Ideal S1x4096x8x128 .f32)
  (K' V' : Vec Ideal Cert.ReferenceIdeal.S1x65536x8x128 .f32)
variable (hK : ∀ (c : Dev nD) (k : Fin 4096) (h : Fin 8) (d : Fin 128),
    K c (ix4 0 k h d) = K' (ix4 0 (keyAt c k) h d))
variable (hV : ∀ (c : Dev nD) (k : Fin 4096) (h : Fin 8) (d : Fin 128),
    V c (ix4 0 k h d) = V' (ix4 0 (keyAt c k) h d))
variable (hfin : ∀ c b i h k, ∃ r : ℝ, sAt x wq (K c) b i h k = (r : EReal))
include hK hfin

theorem seen_jOf (b : Fin 4) (i : Fin 64) (h : Fin 8) (p : Dev nD × Fin 1024) :
    Ref.seen (F := Ideal) x wq K' (ix4 0 h (qrow b i) (jOf b p)) = ((sG x wq K b i h p : ℝ) : EReal) := by
  rw [sG_coe x wq K hfin, Ref.seen_apply, (Ref.mask_iff (qrow b i) (jOf b p)).2, ValueIdx.select_one, Ref.score_apply]
  · unfold sAt qAt
    refine congrArg (· * scale) (Finset.sum_congr rfl fun d _ => ?_)
    rw [Ref.query_apply, hK]
    rfl
  · rw [(mem_jOf b _).1 (Finset.mem_map_of_mem _ (Finset.mem_univ p))]
    show b.val = (64 * b.val + i.val) / 64
    omega

omit hK hfin in
theorem seen_other (b : Fin 4) (i : Fin 64) (h : Fin 8) (j : Fin 65536) (hj : j ∉ Finset.univ.map (jOf b)) :
    Ref.seen (F := Ideal) x wq K' (ix4 0 h (qrow b i) j) = ⊥ := by
  have hm : Ref.mask (ix2 (qrow b i) j) = 0#1 := by
    refine (BitVec.eq_zero_or_eq_one _).resolve_right fun e => hj ((mem_jOf b j).2 (((Ref.mask_iff _ _).1 e).trans ?_))
    show (64 * b.val + i.val) / 64 = b.val
    omega
  rw [Ref.seen_apply, hm, ValueIdx.select_zero]

include hV in
theorem context_quotient (b : Fin 4) (i : Fin 64) (h : Fin 8) (d : Fin 128) :
    ∃ m l c', Part (sG x wq K b i h) (vG V b h d) Finset.univ m l c'
      ∧ Ref.context (F := Ideal) x wq K' V' (ix4 0 h d (qrow b i)) = Ideal.div c' l := by
  obtain ⟨m, l, c', hP, e⟩ := masked_quotient (jOf b) (fun j => Ref.seen (F := Ideal) x wq K' (ix4 0 h (qrow b i) j)) (fun j => V' (ix4 0 j h d))
    (sG x wq K b i h) (fun p => seen_jOf x wq K K' hK hfin b i h p) (fun j hj => seen_other x wq K' b i h j hj)
  refine ⟨m, l, c', ?_, ?_⟩
  · rwa [show vG V b h d = fun p => V' (ix4 0 (jOf b p) h d) from funext fun p => hV p.1 (kpos b p.2) h d]
  · rw [← e, Ref.context_apply]
    refine Finset.sum_congr rfl fun j _ => ?_
    rw [Ref.weight_apply, Ref.total_apply]
    simp only [Ref.expo_apply, Ref.top_apply]

include hV in
/-- Every device's result is the reference's. -/
theorem value_eq (c : Dev nD) :
    lastOut (stAt (ctx0G x wq K V) (st0G x wq K) 3 c).1 (stAt (ctx0G x wq K V) (st0G x wq K) 3 (nb 3 c)).1
        (stAt (ctx0G x wq K V) (st0G x wq K) 3 c).2 (stAt (ctx0G x wq K V) (st0G x wq K) 3 (nb 3 c)).2 wo
      = Ref.out (F := Ideal) x wq K' V' wo := by
  funext j
  idx_vars j
  obtain rfl : j0 = 0 := Subsingleton.elim _ _
  obtain ⟨b, i, rfl⟩ : ∃ (b : Fin 4) (i : Fin 64), j1 = qrow b i :=
    ⟨⟨j1.val / 64, by omega⟩, ⟨j1.val % 64, by omega⟩, Fin.ext (by show j1.val = 64 * (j1.val / 64) + j1.val % 64; omega)⟩
  rw [out_eq x wq K V hfin wo (fun b i h d => Ref.context (F := Ideal) x wq K' V' (ix4 0 h d (qrow b i)))
    (fun b i h d => context_quotient x wq K V K' V' hK hV hfin b i h d), Ref.out_apply]
  refine Finset.sum_congr rfl fun t _ => ?_
  rw [Ref.rows_apply]
end

end Cert.Exchange

end
-- ==== Proof.Value.lean ====
/-
The value claim: on finite inputs of the scores, every device's result is the reference's over the extended reals.
-/
module

public import proofs.«01_k».proof.Defs
public import proofs.«01_k».proof.Proof.Frames
public import proofs.«01_k».proof.Proof.Equal

@[expose] public section

set_option maxRecDepth 16384

noncomputable section

namespace Cert.Exchange

open Cert.KernelIdeal Cert.KernelIdeal.Gen

open Idealize.ShloMosaic Idealize.SL.Sem
open Idealize.ShloMosaic.TcCoe

/-! ## Real scores -/

theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩
theorem real_sum {ι : Type} (A : Finset ι) (f : ι → EReal) (h : ∀ i, ∃ r : ℝ, f i = (r : EReal)) : ∃ r : ℝ, ∑ i ∈ A, f i = (r : EReal) := by
  choose g hg using h
  exact ⟨∑ i ∈ A, g i, by rw [coe_sum]; exact Finset.sum_congr rfl fun i _ => hg i⟩

theorem real_of_abs {a : EReal} (h : max a (-a) < ⊤) : ∃ r : ℝ, a = (r : EReal) := by
  have h1 : a ≠ ⊤ := fun e => by rw [e] at h; simp at h
  have h2 : a ≠ ⊥ := fun e => by rw [e] at h; simp at h
  exact ⟨a.toReal, (EReal.coe_toReal h1 h2).symm⟩

theorem sAt_real (x : Vec Ideal S1x256x1024 .f32) (wq : Vec Ideal S1024x1024 .f32) (K : Vec Ideal S1x4096x8x128 .f32)
    (hx : ∀ i, ∃ r : ℝ, x i = (r : EReal)) (hw : ∀ i, ∃ r : ℝ, wq i = (r : EReal)) (hk : ∀ i, ∃ r : ℝ, K i = (r : EReal))
    (b : Fin 4) (i : Fin 64) (h : Fin 8) (k : Fin 1024) : ∃ r : ℝ, sAt x wq K b i h k = (r : EReal) :=
  real_mul (real_sum _ _ fun d => real_mul (real_sum _ _ fun e => real_mul (hx _) (hw _)) (hk _)) word_scale

/-! ## The precondition -/

theorem pre_facts : Cert.Pre_finite_scores_KernelIdeal.Facts := ⟨by decide, by decide, by decide⟩
theorem pre_facts_ref : Cert.Pre_finite_scores_ReferenceIdeal.Facts := ⟨by decide, by decide, by decide⟩

theorem real_of_bit {a : EReal} (h : Ideal.cmp .olt (max a (-a)) (Ideal.ofBits .f32 0x7F800000#32) = 1#1) : ∃ r : ℝ, a = (r : EReal) := by
  refine real_of_abs ?_
  rw [word_top] at h
  exact of_decide_eq_true ((WordCmp.ofBool_eq_one_iff _).1 h)

theorem pre_real (m : (ℓ : Loc nD τ sig) → Buf (Elt Ideal) ℓ)
    (h : Cert.Pre_KernelIdeal_finite_scores_KernelIdeal (hPre_finite_scores_KernelIdeal := pre_facts) m) (c : Dev nD) :
    (∀ i, ∃ r : ℝ, (m ((c.tc : Thread nD τ).loc main_arg0) : Vec Ideal S1x256x1024 .f32) i = (r : EReal))
      ∧ (∀ i, ∃ r : ℝ, (m ((c.tc : Thread nD τ).loc main_arg1) : Vec Ideal S1024x1024 .f32) i = (r : EReal))
      ∧ (∀ i, ∃ r : ℝ, (m ((c.tc : Thread nD τ).loc main_arg2) : Vec Ideal S1x4096x8x128 .f32) i = (r : EReal)) :=
  ⟨fun i => real_of_bit (congrFun (h c).1 i), fun i => real_of_bit (congrFun (h c).2.1 i), fun i => real_of_bit (congrFun (h c).2.2 i)⟩

/-! ## The kernel's arrays -/

section
variable {F : FTy → Type} [FloatOps F]
variable (m : (ℓ : Loc nD τ sig) → Buf (Elt F) ℓ) (ρ : Dev nD → PrngReg) (c : Dev nD)

theorem xIn_eq : xIn m c = m ((c : Thread nD τ).loc main_arg0) := by
  have hz : (fun a => (win0_0.index (0 : Fin 1)) a * main_arg0.ty.shape.size a) = fun _ => 0 := funext fun a => by fin_cases a <;> decide
  have hr := fun f => Memref.read_access_unit_zero (Elt F) main_arg0 hz (fun a => by fin_cases a <;> decide) f
  show (win0_0.blk (0 : Fin 1)).view.read (Elt F) (m ((c : Thread nD τ).loc main_arg0)) = _
  rw [hr]
theorem wqIn_eq : wqIn m c = m ((c : Thread nD τ).loc main_arg1) := by
  have hz : (fun a => (win0_1.index (0 : Fin 1)) a * main_arg1.ty.shape.size a) = fun _ => 0 := funext fun a => by fin_cases a <;> decide
  have hr := fun f => Memref.read_access_unit_zero (Elt F) main_arg1 hz (fun a => by fin_cases a <;> decide) f
  show (win0_1.blk (0 : Fin 1)).view.read (Elt F) (m ((c : Thread nD τ).loc main_arg1)) = _
  rw [hr]
theorem kIn_eq : kIn m c = m ((c : Thread nD τ).loc main_arg2) := by
  have hz : (fun a => (win0_2.index (0 : Fin 1)) a * main_arg2.ty.shape.size a) = fun _ => 0 := funext fun a => by fin_cases a <;> decide
  have hr := fun f => Memref.read_access_unit_zero (Elt F) main_arg2 hz (fun a => by fin_cases a <;> decide) f
  show (win0_2.blk (0 : Fin 1)).view.read (Elt F) (m ((c : Thread nD τ).loc main_arg2)) = _
  rw [hr]
theorem vIn_eq : vIn m c = m ((c : Thread nD τ).loc main_arg3) := by
  have hz : (fun a => (win0_3.index (0 : Fin 1)) a * main_arg3.ty.shape.size a) = fun _ => 0 := funext fun a => by fin_cases a <;> decide
  have hr := fun f => Memref.read_access_unit_zero (Elt F) main_arg3 hz (fun a => by fin_cases a <;> decide) f
  show (win0_3.blk (0 : Fin 1)).view.read (Elt F) (m ((c : Thread nD τ).loc main_arg3)) = _
  rw [hr]
theorem woIn_eq : woIn m c = m ((c : Thread nD τ).loc main_arg4) := by
  have hz : (fun a => (win0_4.index (0 : Fin 1)) a * main_arg4.ty.shape.size a) = fun _ => 0 := funext fun a => by fin_cases a <;> decide
  have hr := fun f => Memref.read_access_unit_zero (Elt F) main_arg4 hz (fun a => by fin_cases a <;> decide) f
  show (win0_4.blk (0 : Fin 1)).view.read (Elt F) (m ((c : Thread nD τ).loc main_arg4)) = _
  rw [hr]

/-- The result array ends as the body's result. -/
theorem final_out : finalA m ρ c (5 : Fin 6) = outAt m c := by
  have e : (win0_5.blk (0 : Fin 1)).view.read (Elt F) (finalA m ρ c (5 : Fin 6)) = outAt m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hz : (fun a => (win0_5.index (0 : Fin 1)) a * main_v1.ty.shape.size a) = fun _ => 0 := funext fun a => by fin_cases a <;> decide
  have hr := fun f => Memref.read_access_unit_zero (Elt F) main_v1 hz (fun a => by fin_cases a <;> decide) f
  rw [hr] at e
  exact e
end

/-- A device's block of the keys or values, at an index. -/
theorem block_at (v : Vec Ideal Cert.ReferenceIdeal.S1x65536x8x128 .f32) (c : Dev nD) (k : Fin 4096) (h : Fin 8) (d : Fin 128) :
    (Layout.block ⟨4, ![1, 4096, 8, 128]⟩ ⟨4, ![1, 65536, 8, 128]⟩ 1 16 c v : Vec Ideal S1x4096x8x128 .f32) (ix4 0 k h d)
      = v (ix4 0 (keyAt c k) h d) := by
  rw [Layout.block_apply]
  refine congrArg v (funext fun a => Fin.ext ?_)
  rw [Layout.Tiles.idx_val]
  match a with
  | ⟨0, _⟩ => rfl
  | ⟨1, _⟩ => show c.val * 4096 + k.val = 4096 * c.val + k.val; omega
  | ⟨2, _⟩ => rfl
  | ⟨3, _⟩ => rfl

theorem algebraic : Cert.algebraic_KernelIdeal_ReferenceIdeal_pre_finite_scores_KernelIdeal (hPre_finite_scores_KernelIdeal := pre_facts) := by
  intro m ρ m' ρ' hpre hag
  refine ⟨Cert.ReferenceIdeal.Value.res_main_v39 m' 0, ?_, ?_⟩
  · refine (θ_run defs _ _).mono (fun r hr c => ?_) (run_main (F := Ideal) m ρ)
    refine ⟨(hr.1 c (5 : Fin 6)).trans ?_, kept_of m ρ r.2.mem c (hr.1 c)⟩
    rw [final_out, Ref.res_eq]
    obtain ⟨h0, h1, h2, h3, h4⟩ := hag 0
    have hx : ∀ c, xIn m c = xIn m 0 := fun c => by rw [xIn_eq, xIn_eq, (hag c).1, (hag 0).1]
    have hw : ∀ c, wqIn m c = wqIn m 0 := fun c => by rw [wqIn_eq, wqIn_eq, (hag c).2.1, (hag 0).2.1]
    have hc : ctx0 m = ctx0G (xIn m 0) (wqIn m 0) (kIn m) (vIn m) := funext fun c => by unfold ctx0 ctx0G; rw [hx, hw]
    have hs : st0 m = st0G (xIn m 0) (wqIn m 0) (kIn m) := funext fun c => by unfold st0 st0G; rw [hx, hw]
    have hfin : ∀ c b i h k, ∃ r : ℝ, sAt (xIn m 0) (wqIn m 0) (kIn m c) b i h k = (r : EReal) := fun c b i h k => by
      obtain ⟨p0, p1, p2⟩ := pre_real m hpre c
      rw [← hx c, ← hw c]
      exact sAt_real _ _ _ (by rw [xIn_eq]; exact p0) (by rw [wqIn_eq]; exact p1) (by rw [kIn_eq]; exact p2) b i h k
    unfold outAt Cs Ss
    rw [hc, hs]
    refine (value_eq (xIn m 0) (wqIn m 0) (woIn m c) (kIn m) (vIn m)
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) (fun c k h d => ?_) (fun c k h d => ?_) hfin c).trans ?_
    · rw [kIn_eq, (hag c).2.2.1]; exact block_at _ c k h d
    · rw [vIn_eq, (hag c).2.2.2.1]; exact block_at _ c k h d
    · rw [xIn_eq, wqIn_eq, woIn_eq, h0, h1, (hag c).2.2.2.2]
  · exact (θ_run Cert.ReferenceIdeal.defs _ _).mono (fun r h => h 0) (Cert.ReferenceIdeal.Value.run m' ρ')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Exchange.pre_facts, Cert.Exchange.pre_facts_ref,
    Cert.Exchange.frame_kernel, Cert.Exchange.frame_ideal, fun m ρ _ => Cert.Exchange.frame_ideal m ρ trivial,
    Cert.Exchange.frame_ref, fun m ρ _ => Cert.Exchange.frame_ref m ρ trivial, trivial, Cert.Exchange.algebraic⟩

end Cert.Proof

end
